-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_inputs_finite [hPre_inputs_finite : Cert.Pre_inputs_finite.Facts] (m : (ℓ : Loc Cert.KernelIdeal.nD Cert.KernelIdeal.τ Cert.KernelIdeal.sig) → Buf (Elt Ideal) ℓ) : Prop :=
  ∀ c : Dev Cert.KernelIdeal.nD,
    (Cert.Pre_inputs_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))).1 = (fun _ => 1#1)
    ∧ (Cert.Pre_inputs_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))).2.1 = (fun _ => 1#1)
    ∧ (Cert.Pre_inputs_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))).2.2.1 = (fun _ => 1#1)
    ∧ (Cert.Pre_inputs_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))).2.2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_inputs_finite [hPre_inputs_finite : Cert.Pre_inputs_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_inputs_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))).1 = (fun _ => 1#1)
    ∧ (Cert.Pre_inputs_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))).2.1 = (fun _ => 1#1)
    ∧ (Cert.Pre_inputs_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))).2.2.1 = (fun _ => 1#1)
    ∧ (Cert.Pre_inputs_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))).2.2.2 = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_KernelIdeal_pre_inputs_finite [hKernelIdeal : Cert.KernelIdeal.Facts] [hPre_inputs_finite : Cert.Pre_inputs_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_inputs_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_ReferenceIdeal_pre_inputs_finite [hReferenceIdeal : Cert.ReferenceIdeal.Facts] [hPre_inputs_finite : Cert.Pre_inputs_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_inputs_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def preserves_Kernel_KernelIdeal : Prop :=
  IdealRules.named_const.Statement Cert.KernelIdeal.κ "inv_127" .f32 0x3C010204#32 ((1 / 127 : ℝ) : EReal)

def algebraic_KernelIdeal_ReferenceIdeal_pre_inputs_finite [hKernelIdeal : Cert.KernelIdeal.Facts] [hReferenceIdeal : Cert.ReferenceIdeal.Facts] [hPre_inputs_finite : Cert.Pre_inputs_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_inputs_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v3)) (v1 : (c : Dev Cert.KernelIdeal.nD) → Buf (Elt Ideal) ((c.tc : Thread Cert.KernelIdeal.nD Cert.KernelIdeal.τ).loc Cert.KernelIdeal.main_v4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3) = v0 c
          ∧ r.2.mem ((c.tc : Thread Cert.KernelIdeal.nD Cert.KernelIdeal.τ).loc Cert.KernelIdeal.main_v4) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v60) = v0 c
          ∧ r.2.mem ((c.tc : Thread Cert.ReferenceIdeal.nD Cert.ReferenceIdeal.τ).loc Cert.ReferenceIdeal.main_v58) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_inputs_finite : Cert.Pre_inputs_finite.Facts),
    quiescent_Kernel (hKernel := hKernel)
    ∧ quiescent_KernelIdeal (hKernelIdeal := hKernelIdeal)
    ∧ quiescent_KernelIdeal_pre_inputs_finite (hKernelIdeal := hKernelIdeal) (hPre_inputs_finite := hPre_inputs_finite)
    ∧ quiescent_ReferenceIdeal (hReferenceIdeal := hReferenceIdeal)
    ∧ quiescent_ReferenceIdeal_pre_inputs_finite (hReferenceIdeal := hReferenceIdeal) (hPre_inputs_finite := hPre_inputs_finite)
    ∧ preserves_Kernel_KernelIdeal
    ∧ algebraic_KernelIdeal_ReferenceIdeal_pre_inputs_finite (hKernelIdeal := hKernelIdeal) (hReferenceIdeal := hReferenceIdeal) (hPre_inputs_finite := hPre_inputs_finite)
-- ==== Pre_inputs_finite.lean ====
abbrev S4096x128 : Shape := ⟨2, ![4096, 128]⟩
abbrev S4096 : Shape := ⟨1, ![4096]⟩
abbrev S128 : Shape := ⟨1, ![128]⟩
abbrev S512x128 : Shape := ⟨2, ![512, 128]⟩
abbrev S_ : Shape := ⟨0, ![]⟩

class Facts : Prop where
  bcast_S_S4096x128 : S_.BroadcastsInDim S4096x128 (![] : Fin 0 → Fin S4096x128.rank)
  bcast_S_S4096 : S_.BroadcastsInDim S4096 (![] : Fin 0 → Fin S4096.rank)
  bcast_S_S128 : S_.BroadcastsInDim S128 (![] : Fin 0 → Fin S128.rank)
  bcast_S_S512x128 : S_.BroadcastsInDim S512x128 (![] : Fin 0 → Fin S512x128.rank)

variable [Facts]

def fn {F : FTy → Type} [FloatOps F] (main_arg0 : FVec F S4096x128 .f32) (main_arg1 : IVec S4096 32) (main_arg2 : FVec F S128 .f32) (main_arg3 : FVec F S512x128 .f32) : IVec S4096x128 1 × IVec S4096 1 × IVec S128 1 × IVec S512x128 1 :=
  let main_v0 : FVec F S4096x128 .f32 := Host.absf main_arg0
  let main_cst : FVec F S_ .f32 := constant S_ .f32 0x7F800000#32
  let main_v1 : FVec F S4096x128 .f32 := broadcastInDim S4096x128 ![] bcast_S_S4096x128 main_cst
  let main_v2 : IVec S4096x128 1 := cmpf .olt main_v0 main_v1
  let main_c : IVec S_ 32 := constantI S_ 32 0#32
  let main_v3 : IVec S4096 32 := broadcastInDim S4096 ![] bcast_S_S4096 main_c
  let main_v4 : IVec S4096 1 := cmpi .sge main_arg1 main_v3
  let main_c_0 : IVec S_ 32 := constantI S_ 32 512#32
  let main_v5 : IVec S4096 32 := broadcastInDim S4096 ![] bcast_S_S4096 main_c_0
  let main_v6 : IVec S4096 1 := cmpi .slt main_arg1 main_v5
  let main_v7 : IVec S4096 1 := andi main_v4 main_v6
  let main_v8 : FVec F S128 .f32 := Host.absf main_arg2
  let main_cst_1 : FVec F S_ .f32 := constant S_ .f32 0x7F800000#32
  let main_v9 : FVec F S128 .f32 := broadcastInDim S128 ![] bcast_S_S128 main_cst_1
  let main_v10 : IVec S128 1 := cmpf .olt main_v8 main_v9
  let main_v11 : FVec F S512x128 .f32 := Host.absf main_arg3
  let main_cst_2 : FVec F S_ .f32 := constant S_ .f32 0x7F800000#32
  let main_v12 : FVec F S512x128 .f32 := broadcastInDim S512x128 ![] bcast_S_S512x128 main_cst_2
  let main_v13 : IVec S512x128 1 := cmpf .olt main_v11 main_v12
  (main_v2, main_v7, main_v10, main_v13)
-- ==== Kernel.lean ====
abbrev S4096x128 : Shape := ⟨2, ![4096, 128]⟩
abbrev S4096 : Shape := ⟨1, ![4096]⟩
abbrev S128 : Shape := ⟨1, ![128]⟩
abbrev S512x128 : Shape := ⟨2, ![512, 128]⟩
abbrev S4096x1 : Shape := ⟨2, ![4096, 1]⟩
abbrev S1x128 : Shape := ⟨2, ![1, 128]⟩
abbrev S1 : Shape := ⟨1, ![1]⟩
abbrev S2048x128 : Shape := ⟨2, ![2048, 128]⟩
abbrev S2048x1 : Shape := ⟨2, ![2048, 1]⟩
abbrev S1x512 : Shape := ⟨2, ![1, 512]⟩
abbrev S4 : Shape := ⟨1, ![4]⟩
abbrev S128x1 : Shape := ⟨2, ![128, 1]⟩
abbrev S1x1 : Shape := ⟨2, ![1, 1]⟩
abbrev S512 : Shape := ⟨1, ![512]⟩
abbrev S2048x512 : Shape := ⟨2, ![2048, 512]⟩
abbrev S512x1 : Shape := ⟨2, ![512, 1]⟩
abbrev S1x2048x512 : Shape := ⟨3, ![1, 2048, 512]⟩
abbrev S1x1x1 : Shape := ⟨3, ![1, 1, 1]⟩
abbrev S1x2048x1 : Shape := ⟨3, ![1, 2048, 1]⟩
abbrev S1x2048x128 : Shape := ⟨3, ![1, 2048, 128]⟩
abbrev S_ : Shape := ⟨0, ![]⟩

abbrev nBuf : Space → Nat
  | .hbm => 10
  | .vmem => 9
  | .smem => 3
  | _ => 0

abbrev bufTy : (tb : Table) → Fin (tcTables nBuf tb) → BufTy
  | .hbm, ⟨0, _⟩ => ⟨S4096x128, .f32⟩
  | .hbm, ⟨1, _⟩ => ⟨S4096, .i32⟩
  | .hbm, ⟨2, _⟩ => ⟨S128, .f32⟩
  | .hbm, ⟨3, _⟩ => ⟨S512x128, .f32⟩
  | .hbm, ⟨4, _⟩ => ⟨S4096x1, .i32⟩
  | .hbm, ⟨5, _⟩ => ⟨S1x128, .f32⟩
  | .hbm, ⟨6, _⟩ => ⟨S1, .f32⟩
  | .hbm, ⟨7, _⟩ => ⟨S1, .f32⟩
  | .hbm, ⟨8, _⟩ => ⟨S_, .f32⟩
  | .hbm, ⟨9, _⟩ => ⟨S_, .f32⟩
  | .local _ .vmem, ⟨0, _⟩ => ⟨S2048x128, .f32⟩
  | .local _ .vmem, ⟨1, _⟩ => ⟨S2048x128, .f32⟩
  | .local _ .vmem, ⟨2, _⟩ => ⟨S2048x1, .i32⟩
  | .local _ .vmem, ⟨3, _⟩ => ⟨S2048x1, .i32⟩
  | .local _ .vmem, ⟨4, _⟩ => ⟨S1x128, .f32⟩
  | .local _ .vmem, ⟨5, _⟩ => ⟨S512x128, .f32⟩
  | .local _ .vmem, ⟨6, _⟩ => ⟨S1x128, .f32⟩
  | .local _ .vmem, ⟨7, _⟩ => ⟨S512x128, .bf16⟩
  | .local _ .vmem, ⟨8, _⟩ => ⟨S1x512, .f32⟩
  | .local _ .smem, ⟨0, _⟩ => ⟨S1, .f32⟩
  | .local _ .smem, ⟨1, _⟩ => ⟨S1, .f32⟩
  | .local _ .smem, ⟨2, _⟩ => ⟨S4, .f32⟩
  | _, _ => ⟨S4096x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .smem, ⟨0, _⟩ => true
  | .smem, ⟨1, _⟩ => true
  | .smem, ⟨2, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2_0 : Ref sig .tc := ⟨.hbm, 6, rfl⟩
abbrev main_v2_1 : Ref sig .tc := ⟨.hbm, 7, rfl⟩
abbrev main_v3 : Ref sig .tc := ⟨.hbm, 8, rfl⟩
abbrev main_v4 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_scratch0 : Ref sig .tc := ⟨.vmem, 6, rfl⟩
abbrev cc0_scratch1 : Ref sig .tc := ⟨.vmem, 7, rfl⟩
abbrev cc0_scratch2 : Ref sig .tc := ⟨.vmem, 8, rfl⟩
abbrev cc0_stg4_0 : Ref sig .tc := ⟨.smem, 0, rfl⟩
abbrev cc0_stg5_0 : Ref sig .tc := ⟨.smem, 1, rfl⟩
abbrev cc0_scratch3 : Ref sig .tc := ⟨.smem, 2, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7

abbrev nD : Nat := 1
abbrev τ : Topo := Topo.v7x

variable {F : FTy → Type} [FloatOps F]

abbrev grid0 : Pipeline.Grid := ⟨1, ![2], ![false]⟩

def k0_cond2 (i : grid0.Coords) : BitVec 1 :=
  let arg0 : BitVec 32 := BitVec.ofNat 32 (i 0).val
  let c1_i32 : BitVec 32 := 1#32
  let v65 : BitVec 1 := Scalar.cmpi .eq arg0 c1_i32
  let v66 : BitVec 32 := Scalar.extui v65
  let c0_i32_25 : BitVec 32 := 0#32
  let v67 : BitVec 1 := Scalar.cmpi .ne v66 c0_i32_25
  v67

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_5 (i : grid0.Coords) : Fin 1 → Nat :=
  let arg0 : BitVec 32 := BitVec.ofNat 32 (i 0).val
  let c0_i32 : BitVec 32 := 0#32
  let c0_i32_0 : BitVec 32 := 0#32
  ![c0_i32.toNat]

abbrev stage0_0 : Fin 2 → Memref sig .tc .vmem S2048x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2048x1 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S512x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .smem S1 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .smem S1 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]
-- ==== KernelIdeal.lean ====
variable {F : FTy → Type} [FloatOps F] [Named F]
def κ : String → Option EReal := fun
  | "inv_127" => some ((1 / 127 : ℝ) : EReal)
  | _ => none
-- ==== ReferenceIdeal.lean ====
abbrev S4096x128 : Shape := ⟨2, ![4096, 128]⟩
abbrev S4096 : Shape := ⟨1, ![4096]⟩
abbrev S128 : Shape := ⟨1, ![128]⟩
abbrev S512x128 : Shape := ⟨2, ![512, 128]⟩
abbrev S_ : Shape := ⟨0, ![]⟩
abbrev S4096x1 : Shape := ⟨2, ![4096, 1]⟩
abbrev S1 : Shape := ⟨1, ![1]⟩
abbrev S1x128 : Shape := ⟨2, ![1, 128]⟩
abbrev S4096x1x128 : Shape := ⟨3, ![4096, 1, 128]⟩
abbrev S1x512x128 : Shape := ⟨3, ![1, 512, 128]⟩
abbrev S1x1x128 : Shape := ⟨3, ![1, 1, 128]⟩
abbrev S4096x512x128 : Shape := ⟨3, ![4096, 512, 128]⟩
abbrev S4096x512 : Shape := ⟨2, ![4096, 512]⟩

abbrev nBuf : Space → Nat
  | .hbm => 105
  | .vmem => 0
  | .smem => 0
  | _ => 0

abbrev bufTy : (tb : Table) → Fin (tcTables nBuf tb) → BufTy
  | .hbm, ⟨0, _⟩ => ⟨S4096x128, .f32⟩
  | .hbm, ⟨1, _⟩ => ⟨S4096, .i32⟩
  | .hbm, ⟨2, _⟩ => ⟨S128, .f32⟩
  | .hbm, ⟨3, _⟩ => ⟨S512x128, .f32⟩
  | .hbm, ⟨4, _⟩ => ⟨S_, .i32⟩
  | .hbm, ⟨5, _⟩ => ⟨S4096, .i32⟩
  | .hbm, ⟨6, _⟩ => ⟨S4096, .i1⟩
  | .hbm, ⟨7, _⟩ => ⟨S_, .i32⟩
  | .hbm, ⟨8, _⟩ => ⟨S4096, .i32⟩
  | .hbm, ⟨9, _⟩ => ⟨S4096, .i32⟩
  | .hbm, ⟨10, _⟩ => ⟨S4096, .i32⟩
  | .hbm, ⟨11, _⟩ => ⟨S4096x1, .i32⟩
  | .hbm, ⟨12, _⟩ => ⟨S4096x128, .f32⟩
  | .hbm, ⟨13, _⟩ => ⟨S_, .f32⟩
  | .hbm, ⟨14, _⟩ => ⟨S_, .f32⟩
  | .hbm, ⟨15, _⟩ => ⟨S_, .f32⟩
  | .hbm, ⟨16, _⟩ => ⟨S_, .f32⟩
  | .hbm, ⟨17, _⟩ => ⟨S128, .f32⟩
  | .hbm, ⟨18, _⟩ => ⟨S128, .f32⟩
  | .hbm, ⟨19, _⟩ => ⟨S_, .i32⟩
  | .hbm, ⟨20, _⟩ => ⟨S_, .f32⟩
  | .hbm, ⟨21, _⟩ => ⟨S_, .f32⟩
  | .hbm, ⟨22, _⟩ => ⟨S1, .f32⟩
  | .hbm, ⟨23, _⟩ => ⟨S_, .f32⟩
  | .hbm, ⟨24, _⟩ => ⟨S1, .f32⟩
  | .hbm, ⟨25, _⟩ => ⟨S1, .f32⟩
  | .hbm, ⟨26, _⟩ => ⟨S128, .f32⟩
  | .hbm, ⟨27, _⟩ => ⟨S128, .f32⟩
  | .hbm, ⟨28, _⟩ => ⟨S128, .f32⟩
  | .hbm, ⟨29, _⟩ => ⟨S_, .f32⟩
  | .hbm, ⟨30, _⟩ => ⟨S_, .f32⟩
  | .hbm, ⟨31, _⟩ => ⟨S_, .f32⟩
  | .hbm, ⟨32, _⟩ => ⟨S_, .f32⟩
  | .hbm, ⟨33, _⟩ => ⟨S_, .f32⟩
  | .hbm, ⟨34, _⟩ => ⟨S_, .f32⟩
  | .hbm, ⟨35, _⟩ => ⟨S_, .f32⟩
  | .hbm, ⟨36, _⟩ => ⟨S_, .i1⟩
  | .hbm, ⟨37, _⟩ => ⟨S_, .f32⟩
  | .hbm, ⟨38, _⟩ => ⟨S_, .f32⟩
  | .hbm, ⟨39, _⟩ => ⟨S_, .f32⟩
  | .hbm, ⟨40, _⟩ => ⟨S_, .f32⟩
  | .hbm, ⟨41, _⟩ => ⟨S_, .f32⟩
  | .hbm, ⟨42, _⟩ => ⟨S_, .f32⟩
  | .hbm, ⟨43, _⟩ => ⟨S128, .f32⟩
  | .hbm, ⟨44, _⟩ => ⟨S128, .f32⟩
  | .hbm, ⟨45, _⟩ => ⟨S_, .f32⟩
  | .hbm, ⟨46, _⟩ => ⟨S128, .f32⟩
  | .hbm, ⟨47, _⟩ => ⟨S128, .f32⟩
  | .hbm, ⟨48, _⟩ => ⟨S128, .f32⟩
  | .hbm, ⟨49, _⟩ => ⟨S_, .f32⟩
  | .hbm, ⟨50, _⟩ => ⟨S128, .f32⟩
  | .hbm, ⟨51, _⟩ => ⟨S128, .f32⟩
  | .hbm, ⟨52, _⟩ => ⟨S_, .f32⟩
  | .hbm, ⟨53, _⟩ => ⟨S128, .f32⟩
  | .hbm, ⟨54, _⟩ => ⟨S128, .f32⟩
  | .hbm, ⟨55, _⟩ => ⟨S1x128, .f32⟩
  | .hbm, ⟨56, _⟩ => ⟨S4096x128, .f32⟩
  | .hbm, ⟨57, _⟩ => ⟨S4096x128, .f32⟩
  | .hbm, ⟨58, _⟩ => ⟨S1x128, .f32⟩
  | .hbm, ⟨59, _⟩ => ⟨S4096x128, .f32⟩
  | .hbm, ⟨60, _⟩ => ⟨S4096x128, .f32⟩
  | .hbm, ⟨61, _⟩ => ⟨S4096x128, .f32⟩
  | .hbm, ⟨62, _⟩ => ⟨S4096x128, .f32⟩
  | .hbm, ⟨63, _⟩ => ⟨S_, .f32⟩
  | .hbm, ⟨64, _⟩ => ⟨S4096, .f32⟩
  | .hbm, ⟨65, _⟩ => ⟨S_, .f32⟩
  | .hbm, ⟨66, _⟩ => ⟨S4096, .f32⟩
  | .hbm, ⟨67, _⟩ => ⟨S4096, .f32⟩
  | .hbm, ⟨68, _⟩ => ⟨S4096x1x128, .f32⟩
  | .hbm, ⟨69, _⟩ => ⟨S1x512x128, .f32⟩
  | .hbm, ⟨70, _⟩ => ⟨S1x1x128, .f32⟩
  | .hbm, ⟨71, _⟩ => ⟨S4096x1x128, .f32⟩
  | .hbm, ⟨72, _⟩ => ⟨S4096x1x128, .f32⟩
  | .hbm, ⟨73, _⟩ => ⟨S1x1x128, .f32⟩
  | .hbm, ⟨74, _⟩ => ⟨S1x512x128, .f32⟩
  | .hbm, ⟨75, _⟩ => ⟨S1x512x128, .f32⟩
  | .hbm, ⟨76, _⟩ => ⟨S4096x512x128, .f32⟩
  | .hbm, ⟨77, _⟩ => ⟨S4096x512x128, .f32⟩
  | .hbm, ⟨78, _⟩ => ⟨S4096x512x128, .f32⟩
  | .hbm, ⟨79, _⟩ => ⟨S4096x512x128, .f32⟩
  | .hbm, ⟨80, _⟩ => ⟨S_, .f32⟩
  | .hbm, ⟨81, _⟩ => ⟨S4096x512, .f32⟩
  | .hbm, ⟨82, _⟩ => ⟨S_, .f32⟩
  | .hbm, ⟨83, _⟩ => ⟨S4096x512, .f32⟩
  | .hbm, ⟨84, _⟩ => ⟨S4096x512, .f32⟩
  | .hbm, ⟨85, _⟩ => ⟨S4096x1, .f32⟩
  | .hbm, ⟨86, _⟩ => ⟨S4096x512, .f32⟩
  | .hbm, ⟨87, _⟩ => ⟨S4096x512, .f32⟩
  | .hbm, ⟨88, _⟩ => ⟨S_, .f32⟩
  | .hbm, ⟨89, _⟩ => ⟨S4096x512, .f32⟩
  | .hbm, ⟨90, _⟩ => ⟨S4096x512, .i1⟩
  | .hbm, ⟨91, _⟩ => ⟨S4096x512, .f32⟩
  | .hbm, ⟨92, _⟩ => ⟨S_, .f32⟩
  | .hbm, ⟨93, _⟩ => ⟨S_, .f32⟩
  | .hbm, ⟨94, _⟩ => ⟨S_, .f32⟩
  | .hbm, ⟨95, _⟩ => ⟨S_, .f32⟩
  | .hbm, ⟨96, _⟩ => ⟨S4096x512, .f32⟩
  | .hbm, ⟨97, _⟩ => ⟨S4096x512, .f32⟩
  | .hbm, ⟨98, _⟩ => ⟨S_, .f32⟩
  | .hbm, ⟨99, _⟩ => ⟨S_, .f32⟩
  | .hbm, ⟨100, _⟩ => ⟨S_, .f32⟩
  | .hbm, ⟨101, _⟩ => ⟨S_, .f32⟩
  | .hbm, ⟨102, _⟩ => ⟨S_, .f32⟩
  | .hbm, ⟨103, _⟩ => ⟨S_, .f32⟩
  | .hbm, ⟨104, _⟩ => ⟨S_, .f32⟩
  | _, _ => ⟨S4096x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_c : Ref sig .tc := ⟨.hbm, 4, rfl⟩
abbrev main_v0 : Ref sig .tc := ⟨.hbm, 5, rfl⟩
abbrev main_v1 : Ref sig .tc := ⟨.hbm, 6, rfl⟩
abbrev main_c_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst : Ref sig .tc := ⟨.hbm, 13, rfl⟩
abbrev main_v7 : Ref sig .tc := ⟨.hbm, 14, rfl⟩
abbrev main_cst_1 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_c_2 : Ref sig .tc := ⟨.hbm, 19, rfl⟩
abbrev main_call0_cst : Ref sig .tc := ⟨.hbm, 20, rfl⟩
abbrev main_call0_v0 : Ref sig .tc := ⟨.hbm, 21, rfl⟩
abbrev main_call0_v1 : Ref sig .tc := ⟨.hbm, 22, rfl⟩
abbrev main_call0_cst_0 : Ref sig .tc := ⟨.hbm, 23, rfl⟩
abbrev main_call0_v2 : Ref sig .tc := ⟨.hbm, 24, rfl⟩
abbrev main_call0_v3 : Ref sig .tc := ⟨.hbm, 25, rfl⟩
abbrev main_call0_v4 : Ref sig .tc := ⟨.hbm, 26, rfl⟩
abbrev main_call0_v5 : Ref sig .tc := ⟨.hbm, 27, rfl⟩
abbrev main_call0_v6 : Ref sig .tc := ⟨.hbm, 28, rfl⟩
abbrev main_call0_v7 : Ref sig .tc := ⟨.hbm, 29, rfl⟩
abbrev main_call0_cst_1 : Ref sig .tc := ⟨.hbm, 30, rfl⟩
abbrev main_call0_v8 : Ref sig .tc := ⟨.hbm, 31, rfl⟩
abbrev main_call0_cst_2 : Ref sig .tc := ⟨.hbm, 32, rfl⟩
abbrev main_call0_v9 : Ref sig .tc := ⟨.hbm, 33, rfl⟩
abbrev main_call0_v10 : Ref sig .tc := ⟨.hbm, 34, rfl⟩
abbrev main_call0_cst_3 : Ref sig .tc := ⟨.hbm, 35, rfl⟩
abbrev main_call0_v11 : Ref sig .tc := ⟨.hbm, 36, rfl⟩
abbrev main_call0_cst_4 : Ref sig .tc := ⟨.hbm, 37, rfl⟩
abbrev main_call0_call0_v0 : Ref sig .tc := ⟨.hbm, 38, rfl⟩
abbrev main_v11 : Ref sig .tc := ⟨.hbm, 39, rfl⟩
abbrev main_cst_3 : Ref sig .tc := ⟨.hbm, 40, rfl⟩
abbrev main_v12 : Ref sig .tc := ⟨.hbm, 41, rfl⟩
abbrev main_v13 : Ref sig .tc := ⟨.hbm, 42, rfl⟩
abbrev main_v14 : Ref sig .tc := ⟨.hbm, 43, rfl⟩
abbrev main_v15 : Ref sig .tc := ⟨.hbm, 44, rfl⟩
abbrev main_cst_4 : Ref sig .tc := ⟨.hbm, 45, rfl⟩
abbrev main_v16 : Ref sig .tc := ⟨.hbm, 46, rfl⟩
abbrev main_v17 : Ref sig .tc := ⟨.hbm, 47, rfl⟩
abbrev main_v18 : Ref sig .tc := ⟨.hbm, 48, rfl⟩
abbrev main_cst_5 : Ref sig .tc := ⟨.hbm, 49, rfl⟩
abbrev main_v19 : Ref sig .tc := ⟨.hbm, 50, rfl⟩
abbrev main_v20 : Ref sig .tc := ⟨.hbm, 51, rfl⟩
abbrev main_cst_6 : Ref sig .tc := ⟨.hbm, 52, rfl⟩
abbrev main_v21 : Ref sig .tc := ⟨.hbm, 53, rfl⟩
abbrev main_v22 : Ref sig .tc := ⟨.hbm, 54, rfl⟩
abbrev main_v23 : Ref sig .tc := ⟨.hbm, 55, rfl⟩
abbrev main_v24 : Ref sig .tc := ⟨.hbm, 56, rfl⟩
abbrev main_v25 : Ref sig .tc := ⟨.hbm, 57, rfl⟩
abbrev main_v26 : Ref sig .tc := ⟨.hbm, 58, rfl⟩
abbrev main_v27 : Ref sig .tc := ⟨.hbm, 59, rfl⟩
abbrev main_v28 : Ref sig .tc := ⟨.hbm, 60, rfl⟩
abbrev main_v29 : Ref sig .tc := ⟨.hbm, 61, rfl⟩
abbrev main_v30 : Ref sig .tc := ⟨.hbm, 62, rfl⟩
abbrev main_cst_7 : Ref sig .tc := ⟨.hbm, 63, rfl⟩
abbrev main_v31 : Ref sig .tc := ⟨.hbm, 64, rfl⟩
abbrev main_cst_8 : Ref sig .tc := ⟨.hbm, 65, rfl⟩
abbrev main_v32 : Ref sig .tc := ⟨.hbm, 66, rfl⟩
abbrev main_v33 : Ref sig .tc := ⟨.hbm, 67, rfl⟩
abbrev main_v34 : Ref sig .tc := ⟨.hbm, 68, rfl⟩
abbrev main_v35 : Ref sig .tc := ⟨.hbm, 69, rfl⟩
abbrev main_v36 : Ref sig .tc := ⟨.hbm, 70, rfl⟩
abbrev main_v37 : Ref sig .tc := ⟨.hbm, 71, rfl⟩
abbrev main_v38 : Ref sig .tc := ⟨.hbm, 72, rfl⟩
abbrev main_v39 : Ref sig .tc := ⟨.hbm, 73, rfl⟩
abbrev main_v40 : Ref sig .tc := ⟨.hbm, 74, rfl⟩
abbrev main_v41 : Ref sig .tc := ⟨.hbm, 75, rfl⟩
abbrev main_v42 : Ref sig .tc := ⟨.hbm, 76, rfl⟩
abbrev main_v43 : Ref sig .tc := ⟨.hbm, 77, rfl⟩
abbrev main_v44 : Ref sig .tc := ⟨.hbm, 78, rfl⟩
abbrev main_v45 : Ref sig .tc := ⟨.hbm, 79, rfl⟩
abbrev main_cst_9 : Ref sig .tc := ⟨.hbm, 80, rfl⟩
abbrev main_v46 : Ref sig .tc := ⟨.hbm, 81, rfl⟩
abbrev main_cst_10 : Ref sig .tc := ⟨.hbm, 82, rfl⟩
abbrev main_v47 : Ref sig .tc := ⟨.hbm, 83, rfl⟩
abbrev main_v48 : Ref sig .tc := ⟨.hbm, 84, rfl⟩
abbrev main_v49 : Ref sig .tc := ⟨.hbm, 85, rfl⟩
abbrev main_v50 : Ref sig .tc := ⟨.hbm, 86, rfl⟩
abbrev main_v51 : Ref sig .tc := ⟨.hbm, 87, rfl⟩
abbrev main_cst_11 : Ref sig .tc := ⟨.hbm, 88, rfl⟩
abbrev main_v52 : Ref sig .tc := ⟨.hbm, 89, rfl⟩
abbrev main_v53 : Ref sig .tc := ⟨.hbm, 90, rfl⟩
abbrev main_v54 : Ref sig .tc := ⟨.hbm, 91, rfl⟩
abbrev main_cst_12 : Ref sig .tc := ⟨.hbm, 92, rfl⟩
abbrev main_v55 : Ref sig .tc := ⟨.hbm, 93, rfl⟩
abbrev main_cst_13 : Ref sig .tc := ⟨.hbm, 94, rfl⟩
abbrev main_call1_v0 : Ref sig .tc := ⟨.hbm, 95, rfl⟩
abbrev main_call1_v1 : Ref sig .tc := ⟨.hbm, 96, rfl⟩
abbrev main_v56 : Ref sig .tc := ⟨.hbm, 97, rfl⟩
abbrev main_cst_14 : Ref sig .tc := ⟨.hbm, 98, rfl⟩
abbrev main_v57 : Ref sig .tc := ⟨.hbm, 99, rfl⟩
abbrev main_v58 : Ref sig .tc := ⟨.hbm, 100, rfl⟩
abbrev main_cst_15 : Ref sig .tc := ⟨.hbm, 101, rfl⟩
abbrev main_v59 : Ref sig .tc := ⟨.hbm, 102, rfl⟩
abbrev main_cst_16 : Ref sig .tc := ⟨.hbm, 103, rfl⟩
abbrev main_v60 : Ref sig .tc := ⟨.hbm, 104, rfl⟩

abbrev nD : Nat := 1
abbrev τ : Topo := Topo.v7x

variable {F : FTy → Type} [FloatOps F]
-- ==== Proof.RealMath.lean ====
/-
  The mathematics of the problem, over the real numbers, and the equations between the kernel's way and the plain way.

  The weights are a sigmoid of the standardised weight vector (`weight`). The distance of a row to a code is the mean over
  the 128 coordinates of the squared difference of the two, both multiplied by the weights (`dist`). The first result is the mean
  over the rows of the distance to the row's own code; the second is the mean, over the pairs (row, code) whose
  distance is at most the distance to the row's own code, of the difference of the two distances.

  The kernel expands the square: the distance is the row's own mean square minus `term`, and that mean square cancels in a
  difference of two distances of one row.
-/
module

public import Mathlib.Analysis.SpecialFunctions.Exp
public import Mathlib.Analysis.SpecialFunctions.Pow.Real
public import Mathlib.Tactic.Ring
public import Mathlib.Tactic.Linarith
public import Mathlib.Tactic.Positivity
public import Mathlib.Tactic.FieldSimp
public import Mathlib.Algebra.BigOperators.Fin

@[expose] public section

noncomputable section

namespace Cert.Dist

open scoped BigOperators

/-- The small number added to the variance: the binary32 number nearest to one hundred-thousandth. -/
def eps : ℝ := 10995116 / 2 ^ 40

theorem eps_pos : 0 < eps := by unfold eps; positivity

/-- The mean of the weight vector. -/
def mean (W : Fin 128 → ℝ) : ℝ := (∑ d, W d) / 128

/-- Its unbiased variance. -/
def variance (W : Fin 128 → ℝ) : ℝ := (∑ d, (W d - mean W) * (W d - mean W)) / 127

theorem variance_nonneg (W : Fin 128 → ℝ) : 0 ≤ variance W := by
  unfold variance
  exact div_nonneg (Finset.sum_nonneg fun d _ => mul_self_nonneg _) (by norm_num)

/-- The weight of coordinate `d`. -/
def weight (W : Fin 128 → ℝ) (d : Fin 128) : ℝ :=
  1 / (1 + Real.exp (-7 * ((W d - mean W) / Real.sqrt (variance W + eps))))

/-- The distance of a row `x` to a code `e` under weights `v`. -/
def dist (v x e : Fin 128 → ℝ) : ℝ := (∑ d, (x d * v d - e d * v d) * (x d * v d - e d * v d)) / 128

/-- The part of the distance that depends on the code, negated, as the kernel computes it. -/
def term (v x e : Fin 128 → ℝ) : ℝ :=
  (∑ d, x d * v d * (e d * v d * (1 / 64))) - (∑ d, e d * v d * (e d * v d)) * (1 / 128)

/-- The sum of the squares of the variation about the mean, from the sum of the squares and the sum. -/
theorem variance_eq (W : Fin 128 → ℝ) :
    ((∑ d, W d * W d) - (∑ d, W d) * ((∑ d, W d) * (1 / 128))) * (1 / 127) = variance W := by
  have h : ∑ d, (W d - mean W) * (W d - mean W) = (∑ d, W d * W d) - (2 * mean W) * (∑ d, W d) + 128 * (mean W * mean W) := by
    rw [Finset.mul_sum, ← Finset.sum_sub_distrib]
    have : (128 : ℝ) * (mean W * mean W) = ∑ _d : Fin 128, mean W * mean W := by simp
    rw [this, ← Finset.sum_add_distrib]
    exact Finset.sum_congr rfl fun d _ => by ring
  unfold variance
  rw [h]
  unfold mean
  ring

/-- The kernel's weight — by the reciprocal of the square root — is the weight. -/
theorem weight_eq (W : Fin 128 → ℝ) (d : Fin 128) :
    1 / (1 + Real.exp (-7 * ((W d - (∑ d, W d) * (1 / 128)) *
      (Real.sqrt (((∑ d, W d * W d) - (∑ d, W d) * ((∑ d, W d) * (1 / 128))) * (1 / 127) + eps))⁻¹))) = weight W d := by
  rw [variance_eq]
  unfold weight mean
  rw [div_eq_mul_inv (W d - _), mul_one_div]

/-- The distance is the row's mean square minus `term`. -/
theorem dist_eq (v x e : Fin 128 → ℝ) : dist v x e = (∑ d, x d * v d * (x d * v d)) * (1 / 128) - term v x e := by
  have h : ∑ d, (x d * v d - e d * v d) * (x d * v d - e d * v d)
      = (∑ d, x d * v d * (x d * v d)) - 128 * (∑ d, x d * v d * (e d * v d * (1 / 64))) + ∑ d, e d * v d * (e d * v d) := by
    rw [Finset.mul_sum, ← Finset.sum_sub_distrib, ← Finset.sum_add_distrib]
    exact Finset.sum_congr rfl fun d _ => by ring
  unfold dist term
  rw [h]
  ring

/-- So a difference of two distances of one row is the opposite difference of the terms. -/
theorem dist_sub (v x e e' : Fin 128 → ℝ) : dist v x e - dist v x e' = term v x e' - term v x e := by
  rw [dist_eq, dist_eq]; ring

/-- A sum over the 4096 rows is the sum over the two halves. -/
theorem sum_halves (f : Fin 4096 → ℝ) :
    ∑ b, f b = (∑ r : Fin 2048, f ⟨2048 * (0 : Fin 2).val + r.val, by have := r.isLt; simp only [Fin.val_zero]; omega⟩)
      + ∑ r : Fin 2048, f ⟨2048 * (1 : Fin 2).val + r.val, by have := r.isLt; simp only [Fin.val_one]; omega⟩ := by
  refine (Fin.sum_univ_add (a := 2048) (b := 2048) f).trans ?_
  congr 1

section Results

variable (v : Fin 128 → ℝ) (X : Fin 4096 → Fin 128 → ℝ) (E : Fin 512 → Fin 128 → ℝ) (K : Fin 4096 → Fin 512)

/-- The difference of the distance to the row's own code and the distance to code `c`. -/
def excess (b : Fin 4096) (c : Fin 512) : ℝ := dist v (X b) (E (K b)) - dist v (X b) (E c)

/-- The first result: the mean distance of a row to its own code. -/
def meanDist : ℝ := (∑ b, dist v (X b) (E (K b))) / 4096

/-- How many pairs (row, code) have a distance at most the row's distance to its own code. -/
def count : ℝ := ∑ b, ∑ c, if 0 ≤ excess v X E K b c then 1 else 0

/-- The sum of the differences over those pairs. -/
def total : ℝ := ∑ b, ∑ c, if 0 ≤ excess v X E K b c then excess v X E K b c else 0

/-- At the row's own code the difference is zero. -/
theorem excess_self (b : Fin 4096) : excess v X E K b (K b) = 0 := by unfold excess; ring

/-- The count is positive: a row's own code counts. -/
theorem count_pos : 0 < count v X E K := by
  unfold count
  refine Finset.sum_pos (fun b _ => ?_) ⟨0, Finset.mem_univ _⟩
  refine Finset.sum_pos' (fun c _ => by split <;> norm_num) ⟨K b, Finset.mem_univ _, ?_⟩
  rw [excess_self, if_pos (le_refl _)]
  norm_num

/-- The kernel's difference is the difference of the distances. -/
theorem term_sub (b : Fin 4096) (c : Fin 512) : term v (X b) (E c) - term v (X b) (E (K b)) = excess v X E K b c := by
  unfold excess; rw [dist_sub]

/-- The kernel's count, which counts a row's own code whatever the difference there, is the count. -/
theorem count_eq : (∑ b, ∑ c, if 0 ≤ term v (X b) (E c) - term v (X b) (E (K b)) ∨ c = K b then (1 : ℝ) else 0) = count v X E K := by
  unfold count
  refine Finset.sum_congr rfl fun b _ => Finset.sum_congr rfl fun c _ => if_congr ?_ rfl rfl
  rw [term_sub]
  refine ⟨fun h => h.elim id fun h => ?_, Or.inl⟩
  rw [h, excess_self]

/-- The kernel's sum of the positive parts is the sum of the differences that are not negative. -/
theorem total_eq : (∑ b, ∑ c, max (term v (X b) (E c) - term v (X b) (E (K b))) 0) = total v X E K := by
  unfold total
  refine Finset.sum_congr rfl fun b _ => Finset.sum_congr rfl fun c _ => ?_
  rw [term_sub]
  split_ifs with h
  · exact max_eq_left h
  · exact max_eq_right (le_of_lt (not_le.mp h))

/-- The kernel's first result is the mean distance. -/
theorem meanDist_eq : ((∑ b, ∑ d, X b d * v d * (X b d * v d)) * (1 / 128) - ∑ b, term v (X b) (E (K b))) * (1 / 4096)
    = meanDist v X E K := by
  unfold meanDist
  rw [Finset.sum_mul, ← Finset.sum_sub_distrib, Finset.sum_congr rfl fun b _ => (dist_eq v (X b) (E (K b))).symm]
  ring

end Results

end Cert.Dist
end
-- ==== Proof.IdealReal.lean ====
/-
  Extended reals that are real numbers: sums, quotients and the constants of the two programs.
-/
module

public import Idealize.ShloMosaic.Lib.Pointwise
public import proofs.«01_k».proof.Proof.RealMath

@[expose] public section

noncomputable section

namespace Cert.Dist

open Idealize.ShloMosaic
open scoped BigOperators

/-- A sum of real numbers taken in the extended reals is the real sum. -/
theorem coe_sum {ι : Type} (s : Finset ι) (f : ι → ℝ) : ∑ i ∈ s, (f i : EReal) = ((∑ i ∈ s, f i : ℝ) : EReal) := by
  classical
  induction s using Finset.induction_on with
  | empty => simp
  | insert a s ha ih => rw [Finset.sum_insert ha, Finset.sum_insert ha, ih, EReal.coe_add]

/-- The larger of two real numbers. -/
theorem coe_max (a b : ℝ) : max (a : EReal) (b : EReal) = ((max a b : ℝ) : EReal) :=
  (EReal.coe_strictMono.monotone.map_max).symm

/-- A real number divided by one that is not zero. -/
theorem coe_div (a : ℝ) {b : ℝ} (hb : b ≠ 0) : Ideal.div (a : EReal) (b : EReal) = ((a / b : ℝ) : EReal) := by
  rw [Ideal.div_coe hb, ← EReal.coe_mul, mul_one_div]

/-- The square root of a real number that is not negative. -/
theorem coe_sqrt {a : ℝ} (ha : 0 ≤ a) : Ideal.sqrt (a : EReal) = ((Real.sqrt a : ℝ) : EReal) := by
  rw [Ideal.sqrt_coe, if_neg (not_lt.mpr ha)]

/-- The reciprocal of the square root of a positive real number. -/
theorem coe_rsqrt {a : ℝ} (ha : 0 < a) : Ideal.rsqrt (a : EReal) = (((Real.sqrt a)⁻¹ : ℝ) : EReal) := by
  rw [Ideal.rsqrt_coe, if_neg (not_lt.mpr ha.le), if_neg ha.ne']

/-- 1. -/
theorem lit_one : Ideal.ofBits .f32 0x3F800000#32 = ((1 : ℝ) : EReal) := by
  simp [Ideal.ofBits, Ideal.ieee, -EReal.coe_mul]; norm_num
/-- 1/128. -/
theorem lit_inv128 : Ideal.ofBits .f32 0x3C000000#32 = ((1 / 128 : ℝ) : EReal) := by
  simp [Ideal.ofBits, Ideal.ieee, -EReal.coe_mul]; norm_num
/-- 1/64. -/
theorem lit_inv64 : Ideal.ofBits .f32 0x3C800000#32 = ((1 / 64 : ℝ) : EReal) := by
  simp [Ideal.ofBits, Ideal.ieee, -EReal.coe_mul]; norm_num
/-- 1/4096. -/
theorem lit_inv4096 : Ideal.ofBits .f32 0x39800000#32 = ((1 / 4096 : ℝ) : EReal) := by
  simp [Ideal.ofBits, Ideal.ieee, -EReal.coe_mul]; norm_num
/-- −7. -/
theorem lit_neg7 : Ideal.ofBits .f32 0xC0E00000#32 = ((-7 : ℝ) : EReal) := by
  simp [Ideal.ofBits, Ideal.ieee, -EReal.coe_mul]; norm_num
/-- The small number added to the variance. -/
theorem lit_eps : Ideal.ofBits .f32 0x3727C5AC#32 = (eps : EReal) := by
  unfold eps
  simp [Ideal.ofBits, Ideal.ieee, -EReal.coe_mul]; norm_num

/-- A truth value widened to a word and converted is one or zero. -/
theorem sitofp_bit (b : Bool) :
    (FloatOps.sitofp (F := Ideal) .f32 (BitVec.setWidth 32 (BitVec.ofBool b)) : EReal) = ((if b then 1 else 0 : ℝ) : EReal) := by
  cases b <;> simp [FloatOps.sitofp]

/-- A truth value converted is one or zero. -/
theorem uitofp_bit (b : Bool) :
    (FloatOps.uitofp (F := Ideal) .f32 (BitVec.ofBool b) : EReal) = ((if b then 1 else 0 : ℝ) : EReal) := by
  cases b <;> simp [FloatOps.uitofp]

end Cert.Dist
end
-- ==== Proof.Inputs.lean ====
/-
  What the precondition says of the arguments: the three float arrays hold real numbers, and every code number is one of
  the 512 rows of the table.
-/
module

public import proofs.«01_k».proof.Pre_inputs_finite
public import proofs.«01_k».proof.Proof.IdealReal
public import Idealize.ShloMosaic.Lib.Pipeline.Value

@[expose] public section

set_option maxRecDepth 16384

noncomputable section

namespace Cert.Pre_inputs_finite

open Idealize.ShloMosaic

/-- Plus infinity. -/
theorem lit_top : Ideal.ofBits .f32 0x7F800000#32 = (⊤ : EReal) := by
  simp [Ideal.ofBits, Ideal.ieee]

/-- An extended real whose absolute value is below plus infinity is a real number. -/
theorem real_of_abs_lt (x : EReal) (h : Ideal.cmp .olt (max x (-x)) ⊤ = 1#1) : x = ((x.toReal : ℝ) : EReal) := by
  rw [Ideal.cmp_olt] at h
  have hlt : max x (-x) < ⊤ := by
    by_contra hn
    rw [decide_eq_false hn] at h
    exact absurd h (by decide)
  refine (EReal.coe_toReal ?_ ?_).symm
  · rintro rfl
    simp at hlt
  · rintro rfl
    simp at hlt

/-- A word that is at least 0 and below 512, both read signed, is a natural number below 512. -/
theorem number_of_range (k : BitVec 32) (h : IntOp.andi (IntOp.cmpi .sge k 0#32) (IntOp.cmpi .slt k 512#32) = 1#1) :
    k = BitVec.ofNat 32 k.toNat ∧ k.toNat < 512 := by
  refine ⟨BitVec.eq_of_toNat_eq (by simp), ?_⟩
  have h' : BitVec.sle 0#32 k = true ∧ BitVec.slt k 512#32 = true := by
    have e : (BitVec.ofBool (BitVec.sle 0#32 k)) &&& (BitVec.ofBool (BitVec.slt k 512#32)) = 1#1 := h
    cases ha : BitVec.sle 0#32 k <;> cases hb : BitVec.slt k 512#32 <;> rw [ha, hb] at e <;> first | exact ⟨rfl, rfl⟩ | exact absurd e (by decide)
  rw [BitVec.sle_eq_decide, BitVec.slt_eq_decide, decide_eq_true_eq, decide_eq_true_eq, BitVec.toInt_eq_toNat_cond (x := k)] at h'
  have := k.isLt
  simp at h'
  split at h' <;> omega

variable [Facts] (x0 : FVec Ideal S4096x128 .f32) (x1 : IVec S4096 32) (x2 : FVec Ideal S128 .f32) (x3 : FVec Ideal S512x128 .f32)

/-- The rows are real. -/
theorem rows_real (h : (fn (F := Ideal) x0 x1 x2 x3).1 = fun _ => 1#1) (i : S4096x128.Idx) : x0 i = (((x0 i : EReal).toReal : ℝ) : EReal) := by
  refine real_of_abs_lt (x0 i) ?_
  have e := congrFun h i
  rw [← lit_top]
  exact e

/-- The code numbers are numbers of codes. -/
theorem numbers_range (h : (fn (F := Ideal) x0 x1 x2 x3).2.1 = fun _ => 1#1) (i : S4096.Idx) :
    x1 i = BitVec.ofNat 32 (x1 i).toNat ∧ (x1 i).toNat < 512 :=
  number_of_range (x1 i) (congrFun h i)

/-- The weight vector is real. -/
theorem weights_real (h : (fn (F := Ideal) x0 x1 x2 x3).2.2.1 = fun _ => 1#1) (i : S128.Idx) : x2 i = (((x2 i : EReal).toReal : ℝ) : EReal) := by
  refine real_of_abs_lt (x2 i) ?_
  have e := congrFun h i
  rw [← lit_top]
  exact e

/-- The table of codes is real. -/
theorem codes_real (h : (fn (F := Ideal) x0 x1 x2 x3).2.2.2 = fun _ => 1#1) (i : S512x128.Idx) : x3 i = (((x3 i : EReal).toReal : ℝ) : EReal) := by
  refine real_of_abs_lt (x3 i) ?_
  have e := congrFun h i
  rw [← lit_top]
  exact e

end Cert.Pre_inputs_finite
end
-- ==== Proof.KernelPieces.lean ====
/-
  What the body of `v04` leaves at each of its two grid points, as terms of the kernel's own operations.

  The first point computes the normalised weights, the weighted codes and the weighted codes' squared lengths and
  keeps them in scratch (`weightsOf`, `codesOf`, `lengthsOf`), and fills the four accumulator cells from zero; the
  second adds its block to the four cells and writes the two results.
-/
module

public import proofs.«01_k».proof.Proof.Gen.KernelIdeal.Frame
public import Idealize.ShloMosaic.Lib.Pipeline.CanonAppend
public import Idealize.ShloMosaic.Lib.Pipeline.Value
public import Idealize.ShloMosaic.Lib.Tactic
public import Idealize.ShloMosaic.Lib.ValueIdxCore

@[expose] public section

set_option maxRecDepth 16384

noncomputable section

namespace Cert.KernelIdeal.Blk

open Idealize.ShloMosaic Idealize.ShloMosaic.TcCoe Idealize.SL.Sem
open Cert.KernelIdeal.Gen
open Idealize.ShloMosaic.ValueIdx

variable {F : FTy → Type} [FloatOps F] [Named F]

/-- The normalised weights, from the weight row. -/
abbrev weightsOf (w : Vec F S1x128 .f32) : Vec F S1x128 .f32 := k0_pay8 k0_pay13 w

/-- The weighted codes, divided by 64, from the weight row and the table of codes. -/
abbrev codesOf (w : Vec F S1x128 .f32) (e : Vec F S512x128 .f32) : Vec F S512x128 .bf16 := k0_pay10 k0_pay13 w e

/-- The weighted codes' mean squares, from the weight row and the table of codes. -/
abbrev lengthsOf (w : Vec F S1x128 .f32) (e : Vec F S512x128 .f32) : Vec F S1x512 .f32 :=
  k0_pay14 k0_pay11 (k0_pay12 k0_pay13 w e) (constant S1x512 .f32 0x00000000#32)

/-- The four accumulator cells after a block of rows `x` with code numbers `k` is added to the cells `a`, where `ww`,
    `e2`, `es` are the weights, the weighted codes and their mean squares: the sum of the positive differences, their
    count, the sum of the terms at the rows' own codes, and the sum of the squares of the weighted rows. -/
def accStep (ww : Vec F S1x128 .f32) (x : Vec F S2048x128 .f32) (e2 : Vec F S512x128 .bf16) (es : Vec F S1x512 .f32)
    (k : Vec F S2048x1 .i32) (a : Fin 4 → F .f32) : Fin 4 → F .f32 :=
  ![k0_pay1 (a 0) (k0_pay21 ww x e2 es k), k0_pay2 (k0_pay20 ww x e2 es k) (a 1),
    k0_pay3 (k0_pay18 ww x e2 es k) (a 2), k0_pay4 (k0_pay15 ww x) (a 3)]

theorem hz2 : (![0, 0] : Fin 2 → Nat) = fun _ => 0 := funext fun a => by fin_cases a <;> rfl

/-- The one index of the accumulator cell at position `n`, as an index of the four cells. -/
theorem cell_emb (n : Nat) (hn : n < 4) (inb : ∀ a, (![n] : Fin 1 → Nat) a + (![1] : Fin 1 → Nat) a ≤ S4.size a)
    (x : (Rect.unit (s := S4) ![n] ![1] inb).shape.Idx) : (Rect.unit (s := S4) ![n] ![1] inb).emb x = ix1 ⟨n, hn⟩ := by
  funext a
  match a with
  | ⟨0, _⟩ =>
    refine Fin.ext ?_
    have hx : (x 0).val < 1 := (x 0).isLt
    show n + 1 * (x 0).val = n
    omega

/-- An accumulator cell lies in its own place. -/
theorem cell_mem (n : Nat) (hn : n < 4) (inb : ∀ a, (![n] : Fin 1 → Nat) a + (![1] : Fin 1 → Nat) a ≤ S4.size a) :
    (ix1 ⟨n, hn⟩ : S4.Idx) ∈ (Rect.unit (s := S4) ![n] ![1] inb).set := by
  rw [Rect.mem_set_unit]
  intro a
  match a with
  | ⟨0, _⟩ => exact ⟨Nat.le_refl _, Nat.lt_succ_self _⟩

/-- Stores of four values into the four cells, over any earlier stores, leave those values. -/
theorem canon_cells (v : Fin 4 → F .f32) (L : List (View.Piece (Elt F) S4 .f32)) (j : S4.Idx) :
    View.canon (Val := Elt F) (⟨Rect.unit ![3] ![1] inb_S4_S1_3, fun _ => v 3⟩ :: ⟨Rect.unit ![2] ![1] inb_S4_S1_2, fun _ => v 2⟩
      :: ⟨Rect.unit ![1] ![1] inb_S4_S1_1, fun _ => v 1⟩ :: ⟨Rect.unit ![0] ![1] inb_S4_S1_0, fun _ => v 0⟩ :: L) j = v (j 0) := by
  refine View.canon_append_of_pieces (Val := Elt F) (e := .f32) (fun j : S4.Idx => v (j 0)) L [_, _, _, _] ?_ j ?_
  · intro p hp x
    simp only [List.mem_cons, List.not_mem_nil, or_false] at hp
    rcases hp with rfl | rfl | rfl | rfl
    · exact (congrArg (fun y : S4.Idx => v (y 0)) (cell_emb 3 (by decide) inb_S4_S1_3 x)).symm
    · exact (congrArg (fun y : S4.Idx => v (y 0)) (cell_emb 2 (by decide) inb_S4_S1_2 x)).symm
    · exact (congrArg (fun y : S4.Idx => v (y 0)) (cell_emb 1 (by decide) inb_S4_S1_1 x)).symm
    · exact (congrArg (fun y : S4.Idx => v (y 0)) (cell_emb 0 (by decide) inb_S4_S1_0 x)).symm
  · obtain ⟨n, rfl⟩ : ∃ n : Fin 4, j = ix1 n := ⟨j 0, eq_ix1 j⟩
    match n with
    | ⟨0, h⟩ => exact ⟨_, List.mem_cons_of_mem _ (List.mem_cons_of_mem _ (List.mem_cons_of_mem _ List.mem_cons_self)), cell_mem 0 h inb_S4_S1_0⟩
    | ⟨1, h⟩ => exact ⟨_, List.mem_cons_of_mem _ (List.mem_cons_of_mem _ List.mem_cons_self), cell_mem 1 h inb_S4_S1_1⟩
    | ⟨2, h⟩ => exact ⟨_, List.mem_cons_of_mem _ List.mem_cons_self, cell_mem 2 h inb_S4_S1_2⟩
    | ⟨3, h⟩ => exact ⟨_, List.mem_cons_self, cell_mem 3 h inb_S4_S1_3⟩

theorem hz1 : (![0] : Fin 1 → Nat) = fun _ => 0 := funext fun a => by fin_cases a; rfl

section
variable (c : Dev nD) (i : grid0.Coords) (arg1 : Memref sig .tc .vmem S2048x128 .f32) (harg1 : arg1.IsWhole)
  (arg2 : Memref sig .tc .vmem S2048x1 .i32) (harg2 : arg2.IsWhole) (arg3 : Memref sig .tc .vmem S1x128 .f32) (harg3 : arg3.IsWhole)
  (arg4 : Memref sig .tc .vmem S512x128 .f32) (harg4 : arg4.IsWhole) (arg5 : Memref sig .tc .smem S1 .f32) (harg5 : arg5.IsWhole)
  (arg6 : Memref sig .tc .smem S1 .f32) (harg6 : arg6.IsWhole) (arg7 : Memref sig .tc .vmem S1x128 .f32) (harg7 : arg7.IsWhole)
  (arg8 : Memref sig .tc .vmem S512x128 .bf16) (harg8 : arg8.IsWhole) (arg9 : Memref sig .tc .vmem S1x512 .f32) (harg9 : arg9.IsWhole)
  (arg10 : Memref sig .tc .smem S4 .f32) (harg10 : arg10.IsWhole)
  (x0 : Vec F S2048x128 .f32) (x1 : Vec F S2048x1 .i32) (x2 : Vec F S1x128 .f32) (x3 : Vec F S512x128 .f32)

section
variable (hc0 : cond0_0 i) (hc1 : ¬cond0_1 i)

/-- The first point leaves the normalised weights in the first scratch. -/
theorem scratch0_A : sout0_A_0 c i arg1 harg1 arg2 harg2 arg3 harg3 arg4 harg4 arg5 harg5 arg6 harg6 arg7 harg7 arg8 harg8 arg9 harg9 arg10 harg10 hc0 hc1 x0 x1 x2 x3
    = weightsOf x2 := by
  unfold sout0_A_0
  rw [View.read_writes_eq_canon _ _ _ (scover0_A_0 c i arg1 harg1 arg2 harg2 arg3 harg3 arg4 harg4 arg5 harg5 arg6 harg6 arg7 harg7 arg8 harg8 arg9 harg9 arg10 harg10 hc0 hc1 x0 x1 x2 x3)]
  unfold kernelRun0_A
  dsimp only
  sl_unfold_words
  rw [View.canon_unit_zero hz2]
  simp only [View.readAt_eq_ld, harg3.read_unread, View.ld_unit_zero (S := S1x128) hz2]

/-- The first point leaves the weighted codes in the second scratch. -/
theorem scratch1_A : sout0_A_1 c i arg1 harg1 arg2 harg2 arg3 harg3 arg4 harg4 arg5 harg5 arg6 harg6 arg7 harg7 arg8 harg8 arg9 harg9 arg10 harg10 hc0 hc1 x0 x1 x2 x3
    = codesOf x2 x3 := by
  unfold sout0_A_1
  rw [View.read_writes_eq_canon _ _ _ (scover0_A_1 c i arg1 harg1 arg2 harg2 arg3 harg3 arg4 harg4 arg5 harg5 arg6 harg6 arg7 harg7 arg8 harg8 arg9 harg9 arg10 harg10 hc0 hc1 x0 x1 x2 x3)]
  unfold kernelRun0_A
  dsimp only
  sl_unfold_words
  rw [View.canon_unit_zero hz2]
  simp only [View.readAt_eq_ld, harg3.read_unread, harg4.read_unread, View.ld_unit_zero (S := S1x128) hz2, View.ld_unit_zero (S := S512x128) hz2]

/-- The first point leaves the weighted codes' mean squares in the third scratch. -/
theorem scratch2_A : sout0_A_2 c i arg1 harg1 arg2 harg2 arg3 harg3 arg4 harg4 arg5 harg5 arg6 harg6 arg7 harg7 arg8 harg8 arg9 harg9 arg10 harg10 hc0 hc1 x0 x1 x2 x3
    = lengthsOf x2 x3 := by
  unfold sout0_A_2
  rw [View.read_writes_eq_canon _ _ _ (scover0_A_2 c i arg1 harg1 arg2 harg2 arg3 harg3 arg4 harg4 arg5 harg5 arg6 harg6 arg7 harg7 arg8 harg8 arg9 harg9 arg10 harg10 hc0 hc1 x0 x1 x2 x3)]
  unfold kernelRun0_A
  dsimp only
  sl_unfold_words
  rw [View.canon_unit_zero hz2]
  simp only [View.readAt_eq_ld, harg3.read_unread, harg4.read_unread, View.ld_unit_zero (S := S1x128) hz2, View.ld_unit_zero (S := S512x128) hz2]

/-- The first point leaves in the accumulator cells its block's four sums over zero. -/
theorem scratch3_A : sout0_A_3 c i arg1 harg1 arg2 harg2 arg3 harg3 arg4 harg4 arg5 harg5 arg6 harg6 arg7 harg7 arg8 harg8 arg9 harg9 arg10 harg10 hc0 hc1 x0 x1 x2 x3
    = fun j => accStep (weightsOf x2) x0 (codesOf x2 x3) (lengthsOf x2 x3) x1 (fun _ => FloatOps.ofBits .f32 0x00000000#32) (j 0) := by
  unfold sout0_A_3
  rw [View.read_writes_eq_canon _ _ _ (scover0_A_3 c i arg1 harg1 arg2 harg2 arg3 harg3 arg4 harg4 arg5 harg5 arg6 harg6 arg7 harg7 arg8 harg8 arg9 harg9 arg10 harg10 hc0 hc1 x0 x1 x2 x3)]
  unfold kernelRun0_A
  dsimp only
  sl_unfold_words
  simp only [View.readAt_eq_ld, harg1.read_unread, harg2.read_unread, harg3.read_unread, harg4.read_unread, View.ld_unit_zero (S := S1x128) hz2, View.ld_unit_zero (S := S512x128) hz2, View.ld_unit_zero (S := S2048x128) hz2, View.ld_unit_zero (S := S2048x1) hz2,
    View.readCov_unit_zero (S := S1x128) _ hz2, View.readCov_unit_zero (S := S512x128) _ hz2, View.readCov_unit_zero (S := S1x512) _ hz2]
  funext j
  exact canon_cells (accStep (weightsOf x2) x0 (codesOf x2 x3) (lengthsOf x2 x3) x1 (fun _ => FloatOps.ofBits .f32 0x00000000#32)) _ j
end

section
variable (hc0 : ¬cond0_0 i) (hc1 : cond0_1 i) (xs0 : Vec F S1x128 .f32) (xs1 : Vec F S512x128 .bf16) (xs2 : Vec F S1x512 .f32) (xs3 : Vec F S4 .f32)

/-- The second point writes to the first result. -/
theorem out4_B : out0_B_4 c i arg1 harg1 arg2 harg2 arg3 harg3 arg4 harg4 arg5 harg5 arg6 harg6 arg7 harg7 arg8 harg8 arg9 harg9 arg10 harg10 hc0 hc1 x0 x1 x2 x3 xs0 xs1 xs2 xs3
    = fun _ => (let a := accStep xs0 x0 xs1 xs2 x1 (fun j => xs3 (ix1 j)); k0_pay5 (a 3) (a 2)) := by
  unfold out0_B_4
  rw [View.read_writes_eq_canon _ _ _ (cover0_B_4 c i arg1 harg1 arg2 harg2 arg3 harg3 arg4 harg4 arg5 harg5 arg6 harg6 arg7 harg7 arg8 harg8 arg9 harg9 arg10 harg10 hc0 hc1 x0 x1 x2 x3 xs0 xs1 xs2 xs3)]
  unfold kernelRun0_B
  dsimp only
  sl_unfold_words
  simp only [View.readAt_eq_ld, harg1.read_unread, harg2.read_unread, harg3.read_unread, harg4.read_unread, harg7.read_unread, harg8.read_unread, harg9.read_unread, View.ld_unit_zero (S := S1x128) hz2, View.ld_unit_zero (S := S512x128) hz2, View.ld_unit_zero (S := S2048x128) hz2, View.ld_unit_zero (S := S2048x1) hz2, View.ld_unit_zero (S := S1x512) hz2,
    View.readCov_unit_zero (S := S1x128) _ hz2, View.readCov_unit_zero (S := S512x128) _ hz2, View.readCov_unit_zero (S := S1x512) _ hz2]
  rw [View.canon_unit_zero (S := S1) hz1]
  simp only [harg10.read_unread]
  funext _
  show k0_pay5 (k0_pay4 _ (xs3 ((Rect.unit ![3] ![1] inb_S4_S1_3).emb _))) (k0_pay3 _ (xs3 ((Rect.unit ![2] ![1] inb_S4_S1_2).emb _))) = _
  rw [cell_emb 3 (by decide) inb_S4_S1_3, cell_emb 2 (by decide) inb_S4_S1_2]
  rfl

/-- The second point writes to the second result the quotient of the two sums over the differences. -/
theorem out5_B : out0_B_5 c i arg1 harg1 arg2 harg2 arg3 harg3 arg4 harg4 arg5 harg5 arg6 harg6 arg7 harg7 arg8 harg8 arg9 harg9 arg10 harg10 hc0 hc1 x0 x1 x2 x3 xs0 xs1 xs2 xs3
    = fun _ => (let a := accStep xs0 x0 xs1 xs2 x1 (fun j => xs3 (ix1 j)); k0_pay6 (a 0) (a 1)) := by
  unfold out0_B_5
  rw [View.read_writes_eq_canon _ _ _ (cover0_B_5 c i arg1 harg1 arg2 harg2 arg3 harg3 arg4 harg4 arg5 harg5 arg6 harg6 arg7 harg7 arg8 harg8 arg9 harg9 arg10 harg10 hc0 hc1 x0 x1 x2 x3 xs0 xs1 xs2 xs3)]
  unfold kernelRun0_B
  dsimp only
  sl_unfold_words
  simp only [View.readAt_eq_ld, harg1.read_unread, harg2.read_unread, harg7.read_unread, harg8.read_unread, harg9.read_unread, View.ld_unit_zero (S := S1x128) hz2, View.ld_unit_zero (S := S512x128) hz2, View.ld_unit_zero (S := S2048x128) hz2, View.ld_unit_zero (S := S2048x1) hz2, View.ld_unit_zero (S := S1x512) hz2]
  rw [View.canon_unit_zero (S := S1) hz1]
  simp only [harg10.read_unread]
  funext _
  show k0_pay6 (k0_pay1 (xs3 ((Rect.unit ![0] ![1] inb_S4_S1_0).emb _)) _) (k0_pay2 _ (xs3 ((Rect.unit ![1] ![1] inb_S4_S1_1).emb _))) = _
  rw [cell_emb 0 (by decide) inb_S4_S1_0, cell_emb 1 (by decide) inb_S4_S1_1]
  rfl
end
end

end Cert.KernelIdeal.Blk
end
-- ==== Proof.KernelRun.lean ====
/-
  The whole run of `v04`'s `@main`: its two results from its four arguments, and the arguments unchanged.

  The region's blocks are read as rows of the arguments (`block0` … `block3`), the two points' accumulator cells are put
  one after the other (`cells`), and the two result buffers hold what the second point writes (`final4`, `final5`), which
  the two reshapes after the region hand to the results.
-/
module

public import proofs.«01_k».proof.Proof.KernelPieces

@[expose] public section

set_option maxRecDepth 16384

noncomputable section

namespace Cert.KernelIdeal.Blk

open Idealize.ShloMosaic Idealize.ShloMosaic.TcCoe Idealize.SL.Sem Idealize.ShloMosaic.ValueIdx
open Idealize.ShloMosaic.Pipeline (Dat)
open Cert.KernelIdeal.Gen

variable {F : FTy → Type} [FloatOps F] [Named F]
variable (m : (ℓ : Loc nD τ sig) → Buf (Elt F) ℓ) (ρ : Dev nD → PrngReg)

/-- The 2048 rows of `x` that grid point `t` reads. -/
def rowsAt (x : Vec F S4096x128 .f32) (t : Fin 2) : Vec F S2048x128 .f32 :=
  fun j => x (ix2 ⟨2048 * t.val + (j 0).val, by have h : (j 0).val < 2048 := (j 0).isLt; omega⟩ ⟨(j 1).val, (j 1).isLt⟩)

/-- The 2048 code numbers that grid point `t` reads, as a column. -/
def numbersAt (k : Vec F S4096 .i32) (t : Fin 2) : Vec F S2048x1 .i32 :=
  fun j => k (ix1 ⟨2048 * t.val + (j 0).val, by have h : (j 0).val < 2048 := (j 0).isLt; omega⟩)

/-- The weight vector as a row. -/
def weightRow (w : Vec F S128 .f32) : Vec F S1x128 .f32 := fun j => w (ix1 ⟨(j 1).val, (j 1).isLt⟩)

/-- The accumulator cells after the first `n + 1` grid points. -/
def cells (x : Vec F S4096x128 .f32) (k : Vec F S4096 .i32) (w : Vec F S128 .f32) (e : Vec F S512x128 .f32) : Fin 4 → F .f32 :=
  let step (t : Fin 2) := accStep (weightsOf (weightRow w)) (rowsAt x t) (codesOf (weightRow w) e) (lengthsOf (weightRow w) e) (numbersAt k t)
  step 1 (step 0 fun _ => FloatOps.ofBits .f32 0x00000000#32)

/-- Window 0's block at point `t` is the point's rows. -/
theorem block0 (c : Dev nD) (t : Fin cfg0.N) (t' : Fin 2) (ht : t.val = t'.val) :
    (iblk m c 0 t : Vec F S2048x128 .f32) = rowsAt (m ((c : Thread nD τ).loc main_arg0)) t' := by
  have hi : win0_0.index t 0 = t.val ∧ win0_0.index t 1 = 0 := by
    rcases fin_N0 t with rfl | rfl <;> decide
  funext j
  unfold iblk rowsAt
  rw [View.read_apply]
  show V m c main_arg0 _ = _
  rw [V_main_arg0]
  congr 1
  funext a
  apply Fin.ext
  match a with
  | ⟨0, _⟩ => show win0_0.index t 0 * 2048 + 1 * (j 0).val = 2048 * t'.val + (j 0).val; rw [hi.1]; omega
  | ⟨1, _⟩ => show win0_0.index t 1 * 128 + 1 * (j 1).val = (j 1).val; rw [hi.2]; omega

/-- The code numbers as the region finds them: the argument as a column. -/
theorem entry_v0 (c : Dev nD) : V m c main_v0 = shapeCast S4096x1 (m ((c : Thread nD τ).loc main_arg1)) shapeCasts_S4096_S4096x1 := by
  show StableHlo.after [_, _] _ _ = _
  after_results
  rfl

/-- The weight as the region finds it: the argument as a row. -/
theorem entry_v1 (c : Dev nD) : V m c main_v1 = shapeCast S1x128 (m ((c : Thread nD τ).loc main_arg2)) shapeCasts_S128_S1x128 := by
  show StableHlo.after [_, _] _ _ = _
  after_results
  rfl

/-- Window 1's block at point `t` is the point's code numbers. -/
theorem block1 (c : Dev nD) (t : Fin cfg0.N) (t' : Fin 2) (ht : t.val = t'.val) :
    (iblk m c 1 t : Vec F S2048x1 .i32) = numbersAt (m ((c : Thread nD τ).loc main_arg1)) t' := by
  have hi : win0_1.index t 0 = t.val ∧ win0_1.index t 1 = 0 := by
    rcases fin_N0 t with rfl | rfl <;> decide
  funext j
  unfold iblk numbersAt
  rw [View.read_apply]
  show V m c main_v0 _ = _
  rw [entry_v0]
  refine shapeCast_apply _ _ _ _ ?_
  refine (Shape.rowMajor_val_one (d := ![4096]) _).trans (.trans ?_ (Shape.rowMajor_val_two (d := ![4096, 1]) _).symm)
  have h1 : (j 1).val < 1 := (j 1).isLt
  show 2048 * t'.val + (j 0).val = (win0_1.index t 0 * 2048 + 1 * (j 0).val) * 1 + (win0_1.index t 1 * 1 + 1 * (j 1).val)
  rw [hi.1, hi.2]
  omega

/-- Window 2's block at every point is the weight row. -/
theorem block2 (c : Dev nD) (t : Fin cfg0.N) :
    (iblk m c 2 t : Vec F S1x128 .f32) = weightRow (m ((c : Thread nD τ).loc main_arg2)) := by
  have hi : win0_2.index t 0 = 0 ∧ win0_2.index t 1 = 0 := by
    rcases fin_N0 t with rfl | rfl <;> decide
  funext j
  unfold iblk weightRow
  rw [View.read_apply]
  show V m c main_v1 _ = _
  rw [entry_v1]
  refine shapeCast_apply _ _ _ _ ?_
  refine (Shape.rowMajor_val_one (d := ![128]) _).trans (.trans ?_ (Shape.rowMajor_val_two (d := ![1, 128]) _).symm)
  have h0 : (j 0).val < 1 := (j 0).isLt
  show (j 1).val = (win0_2.index t 0 * 1 + 1 * (j 0).val) * 128 + (win0_2.index t 1 * 128 + 1 * (j 1).val)
  rw [hi.1, hi.2]
  omega

/-- Window 3's block at every point is the table of codes. -/
theorem block3 (c : Dev nD) (t : Fin cfg0.N) :
    (iblk m c 3 t : Vec F S512x128 .f32) = m ((c : Thread nD τ).loc main_arg3) := by
  have hi : win0_3.index t 0 = 0 ∧ win0_3.index t 1 = 0 := by
    rcases fin_N0 t with rfl | rfl <;> decide
  funext j
  unfold iblk
  rw [View.read_apply]
  show V m c main_arg3 _ = _
  rw [V_main_arg3]
  congr 1
  funext a
  apply Fin.ext
  match a with
  | ⟨0, _⟩ => show win0_3.index t 0 * 512 + 1 * (j 0).val = (j 0).val; rw [hi.1]; omega
  | ⟨1, _⟩ => show win0_3.index t 1 * 128 + 1 * (j 1).val = (j 1).val; rw [hi.2]; omega

/-- The four accumulator cells, from the arguments in memory. -/
abbrev cellsOf (c : Dev nD) : Fin 4 → F .f32 :=
  cells (m ((c : Thread nD τ).loc main_arg0)) (m ((c : Thread nD τ).loc main_arg1)) (m ((c : Thread nD τ).loc main_arg2)) (m ((c : Thread nD τ).loc main_arg3))

/-- After the second point, the two results' staging buffers hold the two results. -/
theorem outs_last (c : Dev nD) : (outsAt0 m c t0_1.val t0_1.isLt).1 = (fun _ => k0_pay5 (cellsOf m c 3) (cellsOf m c 2))
    ∧ (outsAt0 m c t0_1.val t0_1.isLt).2.1 = (fun _ => k0_pay6 (cellsOf m c 0) (cellsOf m c 1)) := by
  have hA := outsAt0_A m c t0_0 (by decide) (by decide)
  have hB := outsAt0_B m c t0_1 (by decide) (by decide)
  have e0 : ∀ h, outsAt0 m c (t0_1.val - 1) h = outsAt0 m c t0_0.val t0_0.isLt := fun _ => rfl
  rw [hB]
  simp only [e0, hA, out4_B, out5_B, scratch0_A, scratch1_A, scratch2_A, scratch3_A]
  rw [block0 m c t0_0 0 rfl, block0 m c t0_1 1 rfl, block1 m c t0_0 0 rfl, block1 m c t0_1 1 rfl, block2 m c t0_0, block3 m c t0_0]
  exact ⟨rfl, rfl⟩

/-- The only write-back of the first result writes its one element. -/
theorem final4 (c : Dev nD) : (dats m 0 c).arrAt 4 cfg0.N = (fun _ => k0_pay5 (cellsOf m c 3) (cellsOf m c 2) : Vec F S1 .f32) := by
  refine (dats m 0 c).arrAt_eq_of_cover 4 _ (fun t hf => ?_) fun i => ⟨t0_1, (flush0_4 t0_1).mpr (by decide), ?_⟩
  · have h1 := (flush0_4 t).mp hf
    obtain rfl : t = t0_1 := by rcases fin_N0 t with rfl | rfl <;> first | rfl | exact absurd h1 (by decide)
    show (cfg0.win 4).cut (grid0.coords t0_1) ((dats m 0 c).after 4 t0_1) = _
    rw [after0_4, (outs_last m c).1]
    rfl
  · show i ∈ ((View.whole main_v2_0).slice (win0_4.rect t0_1)).set
    rw [View.set_slice_whole, Rect.mem_set_unit]
    intro a
    have h0 : (i 0 : Nat) < 1 := (i 0).isLt
    match a with
    | ⟨0, _⟩ =>
      show win0_4.index t0_1 0 * win0_4.size 0 ≤ (i 0 : Nat) ∧ (i 0 : Nat) < win0_4.index t0_1 0 * win0_4.size 0 + win0_4.xsize (grid0.coords t0_1) 0
      rw [show win0_4.index t0_1 0 * win0_4.size 0 = 0 from by decide +kernel, show win0_4.xsize (grid0.coords t0_1) 0 = 1 from by decide +kernel]; omega

/-- The only write-back of the second result writes its one element. -/
theorem final5 (c : Dev nD) : (dats m 0 c).arrAt 5 cfg0.N = (fun _ => k0_pay6 (cellsOf m c 0) (cellsOf m c 1) : Vec F S1 .f32) := by
  refine (dats m 0 c).arrAt_eq_of_cover 5 _ (fun t hf => ?_) fun i => ⟨t0_1, (flush0_5 t0_1).mpr (by decide), ?_⟩
  · have h1 := (flush0_5 t).mp hf
    obtain rfl : t = t0_1 := by rcases fin_N0 t with rfl | rfl <;> first | rfl | exact absurd h1 (by decide)
    show (cfg0.win 5).cut (grid0.coords t0_1) ((dats m 0 c).after 5 t0_1) = _
    rw [after0_5, (outs_last m c).2]
    rfl
  · show i ∈ ((View.whole main_v2_1).slice (win0_5.rect t0_1)).set
    rw [View.set_slice_whole, Rect.mem_set_unit]
    intro a
    have h0 : (i 0 : Nat) < 1 := (i 0).isLt
    match a with
    | ⟨0, _⟩ =>
      show win0_5.index t0_1 0 * win0_5.size 0 ≤ (i 0 : Nat) ∧ (i 0 : Nat) < win0_5.index t0_1 0 * win0_5.size 0 + win0_5.xsize (grid0.coords t0_1) 0
      rw [show win0_5.index t0_1 0 * win0_5.size 0 = 0 from by decide +kernel, show win0_5.xsize (grid0.coords t0_1) 0 = 1 from by decide +kernel]; omega

/-- After the region, the first reshape hands the first result's one element to the result. -/
theorem result0 (c : Dev nD) : Pipeline.afterTail₀ cfgs (dats m) 0 (V0 m) [hostOps1] c main_v3
    = (fun _ => k0_pay5 (cellsOf m c 3) (cellsOf m c 2) : Vec F S_ .f32) := by
  unfold Pipeline.afterTail₀
  show StableHlo.after [_, _] _ _ = _
  after_results
  have e := (Pipeline.withArrays_arr spec0 launch0.win.arr_inj c (V0 m c) (fun w => (dats m 0 c).arrAt w cfg0.N) 4).trans (final4 m c)
  funext i
  exact congrFun (congrArg (fun v : Vec F S1 .f32 => shapeCast S_ v shapeCasts_S1_S_) e) i

/-- And the second reshape the second result's. -/
theorem result1 (c : Dev nD) : Pipeline.afterTail₀ cfgs (dats m) 0 (V0 m) [hostOps1] c main_v4
    = (fun _ => k0_pay6 (cellsOf m c 0) (cellsOf m c 1) : Vec F S_ .f32) := by
  unfold Pipeline.afterTail₀
  show StableHlo.after [_, _] _ _ = _
  after_results
  have e := (Pipeline.withArrays_arr spec0 launch0.win.arr_inj c (V0 m c) (fun w => (dats m 0 c).arrAt w cfg0.N) 5).trans (final5 m c)
  funext i
  exact congrFun (congrArg (fun v : Vec F S1 .f32 => shapeCast S_ v shapeCasts_S1_S_) e) i

/-- The run of `@main`: the two results from the accumulator cells, the arguments unchanged. -/
theorem run : θ_run defs (onTc (τ := τ) (main (F := F))) ⟨m, fun _ => 0, ρ⟩ fun r => ∀ c : Dev nD,
      r.2.mem ((c : Thread nD τ).loc main_v3) = (fun _ => k0_pay5 (cellsOf m c 3) (cellsOf m c 2) : Vec F S_ .f32)
      ∧ r.2.mem ((c : Thread nD τ).loc main_v4) = (fun _ => k0_pay6 (cellsOf m c 0) (cellsOf m c 1) : Vec F S_ .f32)
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run defs _ _).mono (fun _ h c =>
    ⟨((h c).2 main_v3 (Pipeline.mem_restRefs_of main_v3 (by decide) (by decide))).trans (result0 m c),
      ((h c).2 main_v4 (Pipeline.mem_restRefs_of main_v4 (by decide) (by decide))).trans (result1 m c),
      ((h c).1 0).trans (((dats m 0 c).arrAt_in 0 rfl _).trans ((A_eq m c 0).trans (V_main_arg0 m c))),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c),
      ((h c).1 3).trans (((dats m 0 c).arrAt_in 3 rfl _).trans ((A_eq m c 3).trans (V_main_arg3 m c)))⟩)
    (run_main m ρ)

end Cert.KernelIdeal.Blk
end
-- ==== Proof.KernelValue.lean ====
/-
  What the kernel's operations compute over the real numbers: one block of 2048 rows, for any weight vector, table of codes
  and code numbers.
-/
module

public import proofs.«01_k».proof.Proof.KernelRun
public import proofs.«01_k».proof.Proof.IdealReal
public import Idealize.ShloMosaic.Lib.MatmulPlain

@[expose] public section

set_option maxRecDepth 16384

noncomputable section

namespace Cert.KernelIdeal.Blk

open Idealize.ShloMosaic Idealize.ShloMosaic.TcCoe Idealize.SL.Sem
open Cert.KernelIdeal Cert.KernelIdeal.Gen Cert.Dist
open scoped BigOperators

section Head

variable (W : Fin 128 → ℝ) (E : Fin 512 → Fin 128 → ℝ)
  (w : FVec Ideal S1x128 .f32) (hw : ∀ d, w (ix2 0 d) = (W d : EReal))
  (e : FVec Ideal S512x128 .f32) (he : ∀ c d, e (ix2 c d) = (E c d : EReal))

include hw in
/-- The kernel's normalised weights are the weights. -/
theorem pay7_value (d : Fin 128) : (k0_pay7 k0_pay13 w : FVec Ideal S1x128 .f32) (ix2 0 d) = (weight W d : EReal) := by
  unfold_payloads
  have hq : 0 < ((∑ d, W d * W d) - (∑ d, W d) * ((∑ d, W d) * (1 / 128))) * (1 / 127) + eps := by
    rw [variance_eq]; have := variance_nonneg W; have := eps_pos; linarith
  have h127 : (Named.named (F := Ideal) (φ := .f32) κ "inv_127" 0x3C010204#32 : EReal) = ((1 / 127 : ℝ) : EReal) :=
    IdealRules.named_const.ideal_named_scalar _ _ _ _ rfl
  pointwise [dot_S1x128_S128x1_S1x1_1_0_0_1_n_n, hw, h127, lit_one, lit_inv128, lit_neg7, lit_eps]
  simp only [← EReal.coe_mul, ← EReal.coe_sub, ← EReal.coe_add, coe_sum, mul_one, coe_rsqrt hq, Ideal.exp_coe]
  rw [coe_div _ (by positivity)]
  rw [← weight_eq]

include hw in
/-- They are kept as they are. -/
theorem weightsOf_value (d : Fin 128) : (weightsOf (F := Ideal) w (ix2 0 d) : EReal) = (weight W d : EReal) := by
  unfold weightsOf k0_pay8
  rw [shapeCast_self]
  exact pay7_value W w hw d

include hw he in
/-- The weighted codes. -/
theorem pay9_value (c : Fin 512) (d : Fin 128) :
    (k0_pay9 k0_pay13 w e : FVec Ideal S512x128 .f32) (ix2 c d) = ((E c d * weight W d : ℝ) : EReal) := by
  unfold k0_pay9
  pointwise [he, pay7_value W w hw]
  rw [EReal.coe_mul]

include hw he in
/-- The weighted codes divided by 64. -/
theorem codesOf_value (c : Fin 512) (d : Fin 128) :
    (codesOf (F := Ideal) w e (ix2 c d) : EReal) = ((E c d * weight W d * (1 / 64) : ℝ) : EReal) := by
  unfold codesOf k0_pay10
  pointwise [pay9_value W E w hw e he, lit_inv64]
  rw [EReal.coe_mul _ (1 / 64)]

include hw he in
/-- The weighted codes' mean squares. -/
theorem lengthsOf_value (c : Fin 512) :
    (lengthsOf (F := Ideal) w e (ix2 0 c) : EReal)
      = (((∑ d, E c d * weight W d * (E c d * weight W d)) * (1 / 128) : ℝ) : EReal) := by
  unfold lengthsOf k0_pay14 k0_pay11 k0_pay12
  pointwise [dot_S1x128_S512x128_S1x512_1_1_0_0_n_n, pay9_value W E w hw e he, lit_one, lit_inv128]
  simp only [← EReal.coe_mul, coe_sum, one_mul]

end Head

section Block

variable (v : Fin 128 → ℝ) (X : Fin 2048 → Fin 128 → ℝ) (E : Fin 512 → Fin 128 → ℝ) (K : Fin 2048 → Fin 512)
  (ww : FVec Ideal S1x128 .f32) (hww : ∀ d, ww (ix2 0 d) = (v d : EReal))
  (x : FVec Ideal S2048x128 .f32) (hx : ∀ r d, x (ix2 r d) = (X r d : EReal))
  (e2 : FVec Ideal S512x128 .bf16) (he2 : ∀ c d, e2 (ix2 c d) = ((E c d * v d * (1 / 64) : ℝ) : EReal))
  (es : FVec Ideal S1x512 .f32) (hes : ∀ c, es (ix2 0 c) = (((∑ d, E c d * v d * (E c d * v d)) * (1 / 128) : ℝ) : EReal))
  (k : Vec Ideal S2048x1 .i32) (hk : ∀ r, k (ix2 r 0) = BitVec.ofNat 32 (K r).val)

include hww hx in
/-- The weighted rows. -/
theorem pay15_value (r : Fin 2048) (d : Fin 128) :
    (k0_pay15 ww x : FVec Ideal S2048x128 .f32) (ix2 r d) = ((X r d * v d : ℝ) : EReal) := by
  unfold k0_pay15
  pointwise [hww, hx]
  rw [EReal.coe_mul]

include hww hx he2 hes in
/-- The code-dependent part of the distance. -/
theorem pay16_value (r : Fin 2048) (c : Fin 512) :
    (k0_pay16 ww x e2 es : FVec Ideal S2048x512 .f32) (ix2 r c) = (term v (X r) (E c) : EReal) := by
  unfold k0_pay16
  pointwise [dot_S2048x128_S512x128_S2048x512_1_1_0_0_n_n, pay15_value v X ww hww x hx, he2, hes]
  simp only [← EReal.coe_mul, coe_sum, ← EReal.coe_sub]
  rfl

include hk in
/-- Which code is the row's own. -/
theorem pay17_value (r : Fin 2048) (c : Fin 512) :
    (k0_pay17 (F := Ideal) k : IVec S2048x512 1) (ix2 r c) = BitVec.ofBool (decide (c = K r)) := by
  unfold k0_pay17
  pointwise [hk]
  have h : ((BitVec.ofNat 32 c.val == BitVec.ofNat 32 (K r).val) : Bool) = decide (c = K r) := by
    rw [Bool.eq_iff_iff, beq_iff_eq, decide_eq_true_iff, ← BitVec.toNat_inj, BitVec.toNat_ofNat, BitVec.toNat_ofNat, Fin.ext_iff]
    have := c.isLt; have := (K r).isLt
    omega
  exact congrArg BitVec.ofBool h

include hww hx he2 hes hk in
/-- The code-dependent part of the distance to the row's own code, picked out by a sum with one summand that is not zero. -/
theorem pay18_value (r : Fin 2048) :
    (k0_pay18 ww x e2 es k : FVec Ideal S2048x1 .f32) (ix2 r 0) = (term v (X r) (E (K r)) : EReal) := by
  unfold k0_pay18
  pointwise [dot_S2048x512_S512x1_S2048x1_1_0_0_1_n_n, pay17_value K k hk, pay16_value v X E ww hww x hx e2 he2 es hes, lit_one]
  have h : ∀ c : Fin 512, Scalar.select (BitVec.ofBool (decide (c = K r))) (term v (X r) (E c) : EReal) 0
      = if c = K r then (term v (X r) (E c) : EReal) else 0 := by
    intro c
    by_cases hc : c = K r <;> simp [Scalar.select, hc]
  simp only [h, EReal.coe_one, mul_one]
  rw [Finset.sum_ite_eq' Finset.univ (K r), if_pos (Finset.mem_univ _)]

include hww hx he2 hes hk in
/-- The difference of the two. -/
theorem pay19_value (r : Fin 2048) (c : Fin 512) :
    (k0_pay19 ww x e2 es k : FVec Ideal S2048x512 .f32) (ix2 r c)
      = ((term v (X r) (E c) - term v (X r) (E (K r)) : ℝ) : EReal) := by
  unfold k0_pay19
  pointwise [pay16_value v X E ww hww x hx e2 he2 es hes, pay18_value v X E K ww hww x hx e2 he2 es hes k hk]
  rw [EReal.coe_sub]

include hww hx he2 hes hk in
/-- Which pairs count. -/
theorem pay20_value (r : Fin 2048) (c : Fin 512) :
    (k0_pay20 ww x e2 es k : IVec S2048x512 1) (ix2 r c)
      = BitVec.ofBool (decide (0 ≤ term v (X r) (E c) - term v (X r) (E (K r)) ∨ c = K r)) := by
  unfold k0_pay20
  pointwise [pay19_value v X E K ww hww x hx e2 he2 es hes k hk, pay17_value K k hk]
  rw [← EReal.coe_zero]
  simp only [EReal.coe_le_coe_iff]
  by_cases h₁ : 0 ≤ term v (X r) (E c) - term v (X r) (E (K r)) <;> by_cases h₂ : c = K r <;> simp [h₁, h₂, IntOp.ori]

/-- The sum of the positive parts of one block. -/
def blockTotal : ℝ := ∑ r, ∑ c, max (term v (X r) (E c) - term v (X r) (E (K r))) 0
/-- The count of one block. -/
def blockCount : ℝ := ∑ r, ∑ c, if 0 ≤ term v (X r) (E c) - term v (X r) (E (K r)) ∨ c = K r then (1 : ℝ) else 0
/-- The sum of the own codes' parts of one block. -/
def blockOwn : ℝ := ∑ r, term v (X r) (E (K r))
/-- The sum of the squares of the weighted rows of one block. -/
def blockSquares : ℝ := ∑ r, ∑ d, X r d * v d * (X r d * v d)

include hww hx he2 hes hk in
/-- The block's sum of the positive parts. -/
theorem pay21_value (j : S1.Idx) :
    (k0_pay21 ww x e2 es k : FVec Ideal S1 .f32) j = (blockTotal v X E K : EReal) := by
  unfold k0_pay21
  pointwise [pay19_value v X E K ww hww x hx e2 he2 es hes k hk]
  rw [← EReal.coe_zero]
  simp only [coe_max, coe_sum]
  rw [blockTotal]

/-- The first cell gains the number it is given. -/
theorem pay1_sum (a : EReal) (s : FVec Ideal S1 .f32) : (k0_pay1 (F := Ideal) a s : EReal) = a + s (ix1 0) := by
  unfold k0_pay1
  pointwise

include hww hx he2 hes hk in
/-- The first cell gains the block's sum of the positive parts. -/
theorem pay1_value (a : ℝ) :
    (k0_pay1 (F := Ideal) (a : EReal) (k0_pay21 ww x e2 es k) : EReal) = ((a + blockTotal v X E K : ℝ) : EReal) := by
  rw [pay1_sum, pay21_value v X E K ww hww x hx e2 he2 es hes k hk, ← EReal.coe_add]

/-- The second cell gains the number of truth values that hold. -/
theorem pay2_sum (a : EReal) (s : IVec S2048x512 1) :
    (k0_pay2 (F := Ideal) s a : EReal)
      = a + ∑ r : Fin 2048, ∑ c : Fin 512, FloatOps.sitofp (F := Ideal) .f32 (BitVec.setWidth 32 (s (ix2 r c))) := by
  unfold k0_pay2
  pointwise

include hww hx he2 hes hk in
/-- The second cell gains the block's count. -/
theorem pay2_value (a : ℝ) :
    (k0_pay2 (F := Ideal) (k0_pay20 ww x e2 es k) (a : EReal) : EReal) = ((a + blockCount v X E K : ℝ) : EReal) := by
  rw [pay2_sum]
  simp only [pay20_value v X E K ww hww x hx e2 he2 es hes k hk, sitofp_bit, coe_sum, ← EReal.coe_add, decide_eq_true_eq]
  rw [blockCount]

include hww hx he2 hes hk in
/-- The third cell gains the block's sum of the own codes' parts. -/
theorem pay3_value (a : ℝ) :
    (k0_pay3 (F := Ideal) (k0_pay18 ww x e2 es k) (a : EReal) : EReal) = ((a + blockOwn v X E K : ℝ) : EReal) := by
  unfold k0_pay3
  pointwise [pay18_value v X E K ww hww x hx e2 he2 es hes k hk]
  simp only [coe_sum, ← EReal.coe_add, Fin.sum_univ_one]
  rfl

/-- The fourth cell gains the sum of the squares of an array. -/
theorem pay4_sum (a : EReal) (s : FVec Ideal S2048x128 .f32) :
    (k0_pay4 (F := Ideal) s a : EReal) = a + ∑ r : Fin 2048, ∑ d : Fin 128, (s (ix2 r d) * s (ix2 r d) : EReal) := by
  unfold k0_pay4
  pointwise

include hww hx in
/-- The fourth cell gains the block's sum of squares. -/
theorem pay4_value (a : ℝ) :
    (k0_pay4 (F := Ideal) (k0_pay15 ww x) (a : EReal) : EReal) = ((a + blockSquares v X : ℝ) : EReal) := by
  rw [pay4_sum]
  simp only [pay15_value v X ww hww x hx, ← EReal.coe_mul, coe_sum, ← EReal.coe_add]
  rw [blockSquares]

include hww hx he2 hes hk in
/-- One block adds its four sums to the four cells. -/
theorem accStep_value (a : Fin 4 → ℝ) :
    (accStep (F := Ideal) ww x e2 es k fun n => (a n : EReal))
      = fun n => ((![a 0 + blockTotal v X E K, a 1 + blockCount v X E K, a 2 + blockOwn v X E K, a 3 + blockSquares v X] n : ℝ) : EReal) := by
  unfold accStep
  rw [pay1_value v X E K ww hww x hx e2 he2 es hes k hk, pay2_value v X E K ww hww x hx e2 he2 es hes k hk,
    pay3_value v X E K ww hww x hx e2 he2 es hes k hk, pay4_value v X ww hww x hx]
  funext n
  match n with
  | 0 => rfl
  | 1 => rfl
  | 2 => rfl
  | 3 => rfl

end Block
end Cert.KernelIdeal.Blk
end
-- ==== Proof.KernelResult.lean ====
/-
  The kernel's four cells after both blocks, and its two results, over the real numbers.
-/
module

public import proofs.«01_k».proof.Proof.KernelValue

@[expose] public section

set_option maxRecDepth 16384

noncomputable section

namespace Cert.KernelIdeal.Blk

open Idealize.ShloMosaic Idealize.ShloMosaic.TcCoe Idealize.SL.Sem
open Cert.KernelIdeal Cert.KernelIdeal.Gen Cert.Dist
open scoped BigOperators

/-- Row `r` of block `t` is row `2048 t + r` of the array. -/
def rowOf (t : Fin 2) (r : Fin 2048) : Fin 4096 := ⟨2048 * t.val + r.val, by have := t.isLt; have := r.isLt; omega⟩

/-- A sum over all rows is the sum over the first block's and the second's. -/
theorem sum_blocks (f : Fin 4096 → ℝ) : ∑ b, f b = (∑ r, f (rowOf 0 r)) + ∑ r, f (rowOf 1 r) := sum_halves f

variable (X : Fin 4096 → Fin 128 → ℝ) (K : Fin 4096 → Fin 512) (W : Fin 128 → ℝ) (E : Fin 512 → Fin 128 → ℝ)
  (x0 : FVec Ideal S4096x128 .f32) (h0 : ∀ i : S4096x128.Idx, x0 i = (X (i 0) (i 1) : EReal))
  (x1 : IVec S4096 32) (h1 : ∀ i : S4096.Idx, x1 i = BitVec.ofNat 32 (K (i 0)).val)
  (x2 : FVec Ideal S128 .f32) (h2 : ∀ i : S128.Idx, x2 i = (W (i 0) : EReal))
  (x3 : FVec Ideal S512x128 .f32) (h3 : ∀ i : S512x128.Idx, x3 i = (E (i 0) (i 1) : EReal))

/-- The four cells over the real numbers: the sum of the positive parts, the count, the sum of the own codes' parts and the
    sum of squares, over all rows. -/
def realCells : Fin 4 → ℝ :=
  ![total (weight W) X E K, count (weight W) X E K, ∑ b, term (weight W) (X b) (E (K b)),
    ∑ b, ∑ d, X b d * weight W d * (X b d * weight W d)]

include h0 h1 h2 h3 in
/-- One block's step, with the arrays the kernel reads and keeps. -/
theorem step_value (t : Fin 2) (a : Fin 4 → ℝ) :
    (accStep (F := Ideal) (weightsOf (weightRow (F := Ideal) x2)) (rowsAt (F := Ideal) x0 t) (codesOf (weightRow (F := Ideal) x2) x3)
      (lengthsOf (weightRow (F := Ideal) x2) x3) (numbersAt (F := Ideal) x1 t) fun n => (a n : EReal))
      = fun n => ((![a 0 + blockTotal (weight W) (fun r => X (rowOf t r)) E (fun r => K (rowOf t r)),
          a 1 + blockCount (weight W) (fun r => X (rowOf t r)) E (fun r => K (rowOf t r)),
          a 2 + blockOwn (weight W) (fun r => X (rowOf t r)) E (fun r => K (rowOf t r)),
          a 3 + blockSquares (weight W) (fun r => X (rowOf t r))] n : ℝ) : EReal) :=
  accStep_value (weight W) (fun r => X (rowOf t r)) E (fun r => K (rowOf t r)) _
    (weightsOf_value W (weightRow (F := Ideal) x2) fun d => h2 _) _ (fun r d => h0 _) _
    (codesOf_value W E (weightRow (F := Ideal) x2) (fun d => h2 _) x3 fun c d => h3 _) _
    (lengthsOf_value W E (weightRow (F := Ideal) x2) (fun d => h2 _) x3 fun c d => h3 _) _ (fun r => h1 _) a

include h0 h1 h2 h3 in
/-- The four cells after both blocks. -/
theorem cells_value : cells (F := Ideal) x0 x1 x2 x3 = fun n => (realCells X K W E n : EReal) := by
  have hz : (fun _ : Fin 4 => FloatOps.ofBits (F := Ideal) .f32 0x00000000#32) = fun n : Fin 4 => (((fun _ => 0 : Fin 4 → ℝ) n : ℝ) : EReal) := by
    funext n
    rw [Ideal.ofBits_def, Ideal.ofBits_zero_f32, EReal.coe_zero]
  unfold cells
  dsimp only
  rw [hz, step_value X K W E x0 h0 x1 h1 x2 h2 x3 h3 0, step_value X K W E x0 h0 x1 h1 x2 h2 x3 h3 1]
  unfold realCells
  rw [← total_eq, ← count_eq, sum_blocks fun b => ∑ c, max (term (weight W) (X b) (E c) - term (weight W) (X b) (E (K b))) 0,
    sum_blocks fun b => ∑ c, if 0 ≤ term (weight W) (X b) (E c) - term (weight W) (X b) (E (K b)) ∨ c = K b then (1 : ℝ) else 0,
    sum_blocks fun b => term (weight W) (X b) (E (K b)), sum_blocks fun b => ∑ d, X b d * weight W d * (X b d * weight W d)]
  funext n
  match n with
  | 0 => exact congrArg (fun y : ℝ => (y : EReal)) (congrArg (· + _) (zero_add _))
  | 1 => exact congrArg (fun y : ℝ => (y : EReal)) (congrArg (· + _) (zero_add _))
  | 2 => exact congrArg (fun y : ℝ => (y : EReal)) (congrArg (· + _) (zero_add _))
  | 3 => exact congrArg (fun y : ℝ => (y : EReal)) (congrArg (· + _) (zero_add _))

/-- The first result from two real cells. -/
theorem pay5_value (a b : ℝ) : (k0_pay5 (F := Ideal) (a : EReal) (b : EReal) : EReal) = (((a * (1 / 128) - b) * (1 / 4096) : ℝ) : EReal) := by
  unfold k0_pay5
  pointwise [lit_inv128, lit_inv4096]
  simp only [← EReal.coe_mul, ← EReal.coe_sub]

/-- The second result from two real cells. -/
theorem pay6_value (a b : ℝ) (hb : b ≠ 0) : (k0_pay6 (F := Ideal) (a : EReal) (b : EReal) : EReal) = ((a / b : ℝ) : EReal) := by
  unfold k0_pay6
  pointwise
  exact coe_div a hb

include h0 h1 h2 h3 in
/-- The kernel's first result is the mean distance of a row to its own code. -/
theorem result0_value : (k0_pay5 (F := Ideal) (cells (F := Ideal) x0 x1 x2 x3 3) (cells (F := Ideal) x0 x1 x2 x3 2) : EReal) = (meanDist (weight W) X E K : EReal) := by
  rw [cells_value X K W E x0 h0 x1 h1 x2 h2 x3 h3]
  exact (pay5_value _ _).trans (congrArg (fun y : ℝ => (y : EReal)) (meanDist_eq (weight W) X E K))

include h0 h1 h2 h3 in
/-- The kernel's second result is the mean of the differences that are not negative. -/
theorem result1_value : (k0_pay6 (F := Ideal) (cells (F := Ideal) x0 x1 x2 x3 0) (cells (F := Ideal) x0 x1 x2 x3 1) : EReal)
    = ((total (weight W) X E K / count (weight W) X E K : ℝ) : EReal) := by
  rw [cells_value X K W E x0 h0 x1 h1 x2 h2 x3 h3]
  exact pay6_value _ _ (count_pos _ X E K).ne'

end Cert.KernelIdeal.Blk
end
-- ==== Proof.RefValue.lean ====
/-
  What the reference computes over the real numbers, one stage at a time: the weights, the rows' own codes, the distances,
  and the two results.
-/
module

public import proofs.«01_k».proof.Proof.Gen.ReferenceIdeal.Read
public import proofs.«01_k».proof.Proof.IdealReal
public import Idealize.ShloMosaic.Lib.Routing.Ops

@[expose] public section

set_option maxRecDepth 16384

noncomputable section

namespace Cert.ReferenceIdeal.Dist

open Idealize.ShloMosaic Idealize.ShloMosaic.TcCoe Idealize.SL.Sem
open Cert.ReferenceIdeal Cert.ReferenceIdeal.Gen Cert.ReferenceIdeal.Read Cert.Dist
open scoped BigOperators

/-- 128. -/
theorem lit_128 : Ideal.ofBits .f32 0x43000000#32 = ((128 : ℝ) : EReal) := by
  simp [Ideal.ofBits, Ideal.ieee, -EReal.coe_mul]; norm_num
/-- 4096. -/
theorem lit_4096 : Ideal.ofBits .f32 0x45800000#32 = ((4096 : ℝ) : EReal) := by
  simp [Ideal.ofBits, Ideal.ieee, -EReal.coe_mul]; norm_num
/-- 0. -/
theorem lit_zero : Ideal.ofBits .f32 0x00000000#32 = ((0 : ℝ) : EReal) := by
  rw [Ideal.ofBits_zero_f32, EReal.coe_zero]

variable (X : Fin 4096 → Fin 128 → ℝ) (K : Fin 4096 → Fin 512) (W : Fin 128 → ℝ) (E : Fin 512 → Fin 128 → ℝ)
  (x0 : FVec Ideal S4096x128 .f32) (h0 : ∀ i : S4096x128.Idx, x0 i = (X (i 0) (i 1) : EReal))
  (x1 : IVec S4096 32) (h1 : ∀ i : S4096.Idx, x1 i = BitVec.ofNat 32 (K (i 0)).val)
  (x2 : FVec Ideal S128 .f32) (h2 : ∀ i : S128.Idx, x2 i = (W (i 0) : EReal))
  (x3 : FVec Ideal S512x128 .f32) (h3 : ∀ i : S512x128.Idx, x3 i = (E (i 0) (i 1) : EReal))

section Weights

include h2 in
/-- The sum of the weight vector. -/
theorem sum_value : ∑ j : S128.Idx, (x2 j : EReal) = ((∑ d, W d : ℝ) : EReal) := by
  rw [sum_idx1 (n0 := 128), ← coe_sum]
  exact Finset.sum_congr rfl fun d _ => h2 _

include h2 in
/-- Its mean. -/
theorem v8_value (i : S_.Idx) : val_main_v8 (F := Ideal) x2 i = (mean W : EReal) := by
  rw [val_main_v8_apply, val_main_v7_apply, val_main_cst_apply, val_main_cst_1_apply, sum_value W x2 h2, Ideal.ofBits_def, Ideal.ofBits_def,
    lit_128, lit_zero, Ideal.hostDivf_def, ← EReal.coe_add, coe_div _ (by norm_num), zero_add]
  rfl

include h2 in
/-- The weight vector about its mean. -/
theorem v10_value (i : S128.Idx) : val_main_v10 (F := Ideal) x2 i = ((W (i 0) - mean W : ℝ) : EReal) := by
  rw [val_main_v10_apply, val_main_v9_apply, v8_value W x2 h2, h2, Ideal.subf_def, ← EReal.coe_sub]

include h2 in
/-- The mean again, inside the variance. -/
theorem call0_v3_value (i : S1.Idx) : val_main_call0_v3 (F := Ideal) x2 i = (mean W : EReal) := by
  rw [val_main_call0_v3_apply, val_main_call0_v1_apply, val_main_call0_v2_apply, val_main_call0_v0_apply, val_main_call0_cst_apply,
    val_main_call0_cst_0_apply, sum_value W x2 h2, Ideal.ofBits_def, Ideal.ofBits_def,
    lit_128, lit_zero, Ideal.hostDivf_def, ← EReal.coe_add, coe_div _ (by norm_num), zero_add]
  rfl

include h2 in
/-- The squares about the mean. -/
theorem call0_v6_value (i : S128.Idx) :
    val_main_call0_v6 (F := Ideal) x2 i = (((W (i 0) - mean W) * (W (i 0) - mean W) : ℝ) : EReal) := by
  rw [val_main_call0_v6_apply, val_main_call0_v5_apply, val_main_call0_v4_apply, call0_v3_value W x2 h2, h2, Ideal.subf_def, ← EReal.coe_sub,
    Ideal.mulf_def, ← EReal.coe_mul]

/-- The divisor of the variance is 127. -/
theorem call0_v8_value (i : S_.Idx) : val_main_call0_v8 (F := Ideal) i = ((127 : ℝ) : EReal) := by
  rw [val_main_call0_v8_apply, val_main_call0_cst_1_apply, val_main_call0_v7_apply, val_main_c_2_apply, Ideal.ofBits_def, lit_128, Ideal.subf_def]
  have h : (FloatOps.sitofp (F := Ideal) .f32 1#32 : EReal) = ((1 : ℝ) : EReal) := by simp [FloatOps.sitofp]
  rw [h, ← EReal.coe_sub]
  norm_num

include h2 in
/-- The unbiased variance. -/
theorem v11_value (i : S_.Idx) : val_main_v11 (F := Ideal) x2 i = (variance W : EReal) := by
  have hs : ∑ j : S128.Idx, (val_main_call0_v6 (F := Ideal) x2 j : EReal) = ((∑ d, (W d - mean W) * (W d - mean W) : ℝ) : EReal) := by
    rw [sum_idx1 (n0 := 128), ← coe_sum]
    exact Finset.sum_congr rfl fun d _ => call0_v6_value W x2 h2 _
  have hc : val_main_call0_v11 (F := Ideal) i = 1#1 := by
    rw [val_main_call0_v11_apply, call0_v8_value, val_main_call0_cst_3_apply, Ideal.ofBits_def, lit_zero, Ideal.cmpf_def, Ideal.cmp_ogt]
    rw [decide_eq_true (EReal.coe_lt_coe_iff.mpr (by norm_num))]
    rfl
  rw [val_main_v11_apply, hc, val_main_call0_v10_apply, val_main_call0_v9_apply, hs, call0_v8_value, val_main_call0_cst_2_apply, Ideal.ofBits_def,
    lit_zero, Ideal.hostDivf_def, ← EReal.coe_add, coe_div _ (by norm_num), zero_add]
  rfl

include h2 in
/-- The weights. -/
theorem v22_value (i : S128.Idx) : val_main_v22 (F := Ideal) x2 i = (weight W (i 0) : EReal) := by
  have hv : 0 < variance W + eps := by have := variance_nonneg W; have := eps_pos; linarith
  have hd : val_main_v13 (F := Ideal) x2 (idx_main_v14 i) = ((Real.sqrt (variance W + eps) : ℝ) : EReal) := by
    rw [val_main_v13_apply, val_main_v12_apply, v11_value W x2 h2, val_main_cst_3_apply, Ideal.ofBits_def, lit_eps, Ideal.addf_def, ← EReal.coe_add,
      Ideal.hostUnary_sqrt_def, coe_sqrt hv.le]
  rw [val_main_v22_apply, val_main_v21_apply, val_main_cst_6_apply, val_main_v20_apply, val_main_v19_apply, val_main_cst_5_apply,
    val_main_v18_apply, val_main_v17_apply, val_main_v16_apply, val_main_cst_4_apply, val_main_v15_apply, v10_value W x2 h2,
    val_main_v14_apply, hd]
  simp only [Ideal.ofBits_def, lit_one, lit_neg7, Ideal.hostDivf_def, Ideal.mulf_def, Ideal.addf_def, Ideal.hostUnary_exp_def]
  rw [coe_div _ (Real.sqrt_pos.mpr hv).ne', ← EReal.coe_mul, Ideal.exp_coe, ← EReal.coe_add, coe_div _ (by positivity)]
  rfl

end Weights

section Distances

include h1 in
/-- A row's code number, which is neither negative nor wrapped around. -/
theorem v5_value (i : S4096x1.Idx) : val_main_v5 (F := Ideal) x1 i = BitVec.ofNat 32 (K (i 0)).val := by
  rw [val_main_v5_apply, val_main_v4_apply, val_main_v1_apply, val_main_v0_apply, val_main_c_apply, h1]
  have h : IntOp.cmpi .slt (BitVec.ofNat 32 (K (idx_main_v5 i 0)).val) 0#32 = 0#1 := by
    have hk := (K (idx_main_v5 i 0)).isLt
    generalize (K (idx_main_v5 i 0)).val = n at hk
    have : (BitVec.ofNat 32 n).toInt = n := by
      rw [BitVec.toInt_eq_toNat_cond, BitVec.toNat_ofNat, Nat.mod_eq_of_lt (by omega), if_pos (by omega)]
    have h' : (BitVec.ofNat 32 n).slt 0#32 = false := by
      rw [BitVec.slt_eq_decide, this]
      simp
    exact congrArg BitVec.ofBool h'
  rw [h]
  rfl

include h1 h3 in
/-- A row's own code. -/
theorem v6_value (i : S4096x128.Idx) : val_main_v6 (F := Ideal) x1 x3 i = (E (K (i 0)) (i 1) : EReal) := by
  have g : ∀ (b : Fin 4096) (d : Fin 128), val_main_v6 (F := Ideal) x1 x3 (ValueIdx.ix2 b d) = (E (K b) d : EReal) := fun b d =>
    (Routing.gather_row gather_S512x128_S4096x1_S4096x128_1_0_n_n_0_1_1128 rfl rfl rfl rfl rfl x3 (val_main_v5 (F := Ideal) x1) b d (K b)
      (v5_value K x1 h1 _) (by norm_num)).trans (h3 _)
  exact (congrArg (val_main_v6 (F := Ideal) x1 x3) (ValueIdx.eq_ix2 i)).trans (g (i 0) (i 1))

include h0 h1 h2 h3 in
/-- The distance of a row to its own code. -/
theorem v33_value (i : S4096.Idx) :
    val_main_v33 (F := Ideal) x0 x1 x2 x3 i = (dist (weight W) (X (i 0)) (E (K (i 0))) : EReal) := by
  have hs : ∀ d : Fin 128, val_main_v30 (F := Ideal) x0 x1 x2 x3 (idx_main_v31 i d)
      = (((X (i 0) d * weight W d - E (K (i 0)) d * weight W d) * (X (i 0) d * weight W d - E (K (i 0)) d * weight W d) : ℝ) : EReal) := by
    intro d
    rw [val_main_v30_apply, val_main_v29_apply, val_main_v28_apply, val_main_v25_apply, h0, v6_value K E x1 h1 x3 h3, val_main_v24_apply,
      val_main_v23_apply, val_main_v27_apply, val_main_v26_apply, v22_value W x2 h2]
    simp only [Ideal.mulf_def, Ideal.subf_def, ← EReal.coe_mul, ← EReal.coe_sub]
    rfl
  rw [val_main_v33_apply, val_main_v31_apply, val_main_v32_apply, val_main_cst_7_apply, val_main_cst_8_apply, Finset.sum_congr rfl fun d _ => hs d,
    coe_sum, Ideal.ofBits_def, Ideal.ofBits_def, lit_128, lit_zero, Ideal.hostDivf_def, ← EReal.coe_add, coe_div _ (by norm_num), zero_add]
  rfl

include h0 h2 h3 in
/-- The distance of a row to a code. -/
theorem v48_value (i : S4096x512.Idx) :
    val_main_v48 (F := Ideal) x0 x2 x3 i = (dist (weight W) (X (i 0)) (E (i 1)) : EReal) := by
  have hs : ∀ d : Fin 128, val_main_v45 (F := Ideal) x0 x2 x3 (idx_main_v46 i d)
      = (((X (i 0) d * weight W d - E (i 1) d * weight W d) * (X (i 0) d * weight W d - E (i 1) d * weight W d) : ℝ) : EReal) := by
    intro d
    rw [val_main_v45_apply, val_main_v44_apply, val_main_v42_apply, val_main_v43_apply, val_main_v38_apply, val_main_v41_apply, val_main_v34_apply,
      val_main_v35_apply, h0, h3, val_main_v37_apply, val_main_v36_apply, val_main_v40_apply, val_main_v39_apply, v22_value W x2 h2]
    simp only [Ideal.mulf_def, Ideal.subf_def, ← EReal.coe_mul, ← EReal.coe_sub]
    rfl
  rw [val_main_v48_apply, val_main_v46_apply, val_main_v47_apply, val_main_cst_9_apply, val_main_cst_10_apply, Finset.sum_congr rfl fun d _ => hs d,
    coe_sum, Ideal.ofBits_def, Ideal.ofBits_def, lit_128, lit_zero, Ideal.hostDivf_def, ← EReal.coe_add, coe_div _ (by norm_num), zero_add]
  rfl

include h0 h1 h2 h3 in
/-- The difference of the two distances. -/
theorem v51_value (i : S4096x512.Idx) :
    val_main_v51 (F := Ideal) x0 x1 x2 x3 i = (excess (weight W) X E K (i 0) (i 1) : EReal) := by
  rw [val_main_v51_apply, val_main_v50_apply, val_main_v49_apply, v33_value X K W E x0 h0 x1 h1 x2 h2 x3 h3, v48_value X W E x0 h0 x2 h2 x3 h3,
    Ideal.subf_def, ← EReal.coe_sub]
  rfl

include h0 h1 h2 h3 in
/-- Whether it is not negative. -/
theorem v53_value (i : S4096x512.Idx) :
    val_main_v53 (F := Ideal) x0 x1 x2 x3 i = BitVec.ofBool (decide (0 ≤ excess (weight W) X E K (i 0) (i 1))) := by
  rw [val_main_v53_apply, v51_value X K W E x0 h0 x1 h1 x2 h2 x3 h3, val_main_v52_apply, val_main_cst_11_apply, Ideal.ofBits_def, lit_zero,
    Ideal.cmpf_def, Ideal.cmp_oge]
  simp only [EReal.coe_le_coe_iff]

end Distances

section Results

include h0 h1 h2 h3 in
/-- The first result is the mean distance of a row to its own code. -/
theorem v60_value (i : S_.Idx) : val_main_v60 (F := Ideal) x0 x1 x2 x3 i = (meanDist (weight W) X E K : EReal) := by
  have hs : ∑ j : S4096.Idx, (val_main_v33 (F := Ideal) x0 x1 x2 x3 j : EReal) = ((∑ b, dist (weight W) (X b) (E (K b)) : ℝ) : EReal) := by
    rw [sum_idx1 (n0 := 4096), ← coe_sum]
    exact Finset.sum_congr rfl fun b _ => v33_value X K W E x0 h0 x1 h1 x2 h2 x3 h3 _
  rw [val_main_v60_apply, val_main_v59_apply, hs, val_main_cst_15_apply, val_main_cst_16_apply, Ideal.ofBits_def, Ideal.ofBits_def, lit_4096, lit_zero,
    Ideal.hostDivf_def, ← EReal.coe_add, coe_div _ (by norm_num), zero_add]
  rfl

include h0 h1 h2 h3 in
/-- The second result is the mean of the differences that are not negative. -/
theorem v58_value (i : S_.Idx) :
    val_main_v58 (F := Ideal) x0 x1 x2 x3 i = ((total (weight W) X E K / count (weight W) X E K : ℝ) : EReal) := by
  have hn : ∑ j : S4096x512.Idx, (val_main_v54 (F := Ideal) x0 x1 x2 x3 j : EReal) = (count (weight W) X E K : EReal) := by
    rw [sum_idx2 (n0 := 4096) (n1 := 512), Cert.Dist.count, ← coe_sum]
    refine Finset.sum_congr rfl fun b _ => ?_
    rw [← coe_sum]
    refine Finset.sum_congr rfl fun c _ => ?_
    rw [val_main_v54_apply, v53_value X K W E x0 h0 x1 h1 x2 h2 x3 h3, uitofp_bit]
    simp only [decide_eq_true_eq]
    rfl
  have ht : ∑ j : S4096x512.Idx, (val_main_v56 (F := Ideal) x0 x1 x2 x3 j : EReal) = (total (weight W) X E K : EReal) := by
    rw [sum_idx2 (n0 := 4096) (n1 := 512), Cert.Dist.total, ← coe_sum]
    refine Finset.sum_congr rfl fun b _ => ?_
    rw [← coe_sum]
    refine Finset.sum_congr rfl fun c _ => ?_
    rw [val_main_v56_apply, v53_value X K W E x0 h0 x1 h1 x2 h2 x3 h3, v51_value X K W E x0 h0 x1 h1 x2 h2 x3 h3, val_main_call1_v1_apply,
      val_main_call1_v0_apply, val_main_cst_13_apply, Ideal.ofBits_def, lit_zero]
    show Scalar.select (BitVec.ofBool (decide (0 ≤ excess (weight W) X E K b c))) (excess (weight W) X E K b c : EReal) ((0 : ℝ) : EReal) = _
    by_cases h : 0 ≤ excess (weight W) X E K b c <;> simp [Scalar.select, h]
  rw [val_main_v58_apply, val_main_v57_apply, val_main_v55_apply, hn, ht, val_main_cst_12_apply, val_main_cst_14_apply, Ideal.ofBits_def, lit_zero,
    Ideal.hostDivf_def, ← EReal.coe_add, ← EReal.coe_add, zero_add, zero_add, coe_div _ (count_pos _ X E K).ne']

end Results

end Cert.ReferenceIdeal.Dist
end
-- ==== Proof.Equation.lean ====
/-
  The equation: on arguments that satisfy the precondition the kernel's two results are the reference's.
-/
module

public import proofs.«01_k».proof.Proof.Inputs
public import proofs.«01_k».proof.Proof.KernelResult
public import proofs.«01_k».proof.Proof.RefValue

@[expose] public section

set_option maxRecDepth 16384

noncomputable section

namespace Cert.Dist

open Idealize.ShloMosaic
open Cert.Pre_inputs_finite (S4096x128 S4096 S128 S512x128 S_)

variable [Cert.Pre_inputs_finite.Facts]
  (x0 : FVec Ideal S4096x128 .f32) (x1 : IVec S4096 32) (x2 : FVec Ideal S128 .f32) (x3 : FVec Ideal S512x128 .f32)

/-- Arguments that satisfy the precondition are real arrays and a vector of code numbers. -/
theorem real_arguments (h : (Cert.Pre_inputs_finite.fn (F := Ideal) x0 x1 x2 x3).1 = (fun _ => 1#1)
      ∧ (Cert.Pre_inputs_finite.fn (F := Ideal) x0 x1 x2 x3).2.1 = (fun _ => 1#1)
      ∧ (Cert.Pre_inputs_finite.fn (F := Ideal) x0 x1 x2 x3).2.2.1 = (fun _ => 1#1)
      ∧ (Cert.Pre_inputs_finite.fn (F := Ideal) x0 x1 x2 x3).2.2.2 = (fun _ => 1#1)) :
    ∃ (X : Fin 4096 → Fin 128 → ℝ) (K : Fin 4096 → Fin 512) (W : Fin 128 → ℝ) (E : Fin 512 → Fin 128 → ℝ),
      (∀ i : S4096x128.Idx, x0 i = (X (i 0) (i 1) : EReal)) ∧ (∀ i : S4096.Idx, x1 i = BitVec.ofNat 32 (K (i 0)).val)
      ∧ (∀ i : S128.Idx, x2 i = (W (i 0) : EReal)) ∧ (∀ i : S512x128.Idx, x3 i = (E (i 0) (i 1) : EReal)) := by
  obtain ⟨h0, h1, h2, h3⟩ := h
  refine ⟨fun b d => (x0 (ix2 b d) : EReal).toReal,
    fun b => ⟨(x1 (ix1 b)).toNat, (Cert.Pre_inputs_finite.numbers_range x0 x1 x2 x3 h1 (ix1 b)).2⟩,
    fun d => (x2 (ix1 d) : EReal).toReal, fun c d => (x3 (ix2 c d) : EReal).toReal, fun i => ?_, fun i => ?_, fun i => ?_, fun i => ?_⟩
  · have e := Cert.Pre_inputs_finite.rows_real x0 x1 x2 x3 h0 i
    rwa [← ix2_eta (n0 := 4096) (n1 := 128) i] at e ⊢
  · have e := (Cert.Pre_inputs_finite.numbers_range x0 x1 x2 x3 h1 i).1
    rwa [← ix1_eta (n0 := 4096) i] at e ⊢
  · have e := Cert.Pre_inputs_finite.weights_real x0 x1 x2 x3 h2 i
    rwa [← ix1_eta (n0 := 128) i] at e ⊢
  · have e := Cert.Pre_inputs_finite.codes_real x0 x1 x2 x3 h3 i
    rwa [← ix2_eta (n0 := 512) (n1 := 128) i] at e ⊢

/-- The two results of the kernel are the two of the reference. -/
theorem results_eq (h : (Cert.Pre_inputs_finite.fn (F := Ideal) x0 x1 x2 x3).1 = (fun _ => 1#1)
      ∧ (Cert.Pre_inputs_finite.fn (F := Ideal) x0 x1 x2 x3).2.1 = (fun _ => 1#1)
      ∧ (Cert.Pre_inputs_finite.fn (F := Ideal) x0 x1 x2 x3).2.2.1 = (fun _ => 1#1)
      ∧ (Cert.Pre_inputs_finite.fn (F := Ideal) x0 x1 x2 x3).2.2.2 = (fun _ => 1#1)) :
    Cert.ReferenceIdeal.Read.val_main_v60 (F := Ideal) x0 x1 x2 x3
        = (fun _ => Cert.KernelIdeal.Gen.k0_pay5 (F := Ideal) (Cert.KernelIdeal.Blk.cells (F := Ideal) x0 x1 x2 x3 3)
            (Cert.KernelIdeal.Blk.cells (F := Ideal) x0 x1 x2 x3 2))
    ∧ Cert.ReferenceIdeal.Read.val_main_v58 (F := Ideal) x0 x1 x2 x3
        = (fun _ => Cert.KernelIdeal.Gen.k0_pay6 (F := Ideal) (Cert.KernelIdeal.Blk.cells (F := Ideal) x0 x1 x2 x3 0)
            (Cert.KernelIdeal.Blk.cells (F := Ideal) x0 x1 x2 x3 1)) := by
  obtain ⟨X, K, W, E, h0, h1, h2, h3⟩ := real_arguments x0 x1 x2 x3 h
  exact ⟨funext fun i => (Cert.ReferenceIdeal.Dist.v60_value X K W E x0 h0 x1 h1 x2 h2 x3 h3 i).trans
      (Cert.KernelIdeal.Blk.result0_value X K W E x0 h0 x1 h1 x2 h2 x3 h3).symm,
    funext fun i => (Cert.ReferenceIdeal.Dist.v58_value X K W E x0 h0 x1 h1 x2 h2 x3 h3 i).trans
      (Cert.KernelIdeal.Blk.result1_value X K W E x0 h0 x1 h1 x2 h2 x3 h3).symm⟩

end Cert.Dist
end
-- ==== Proof.lean ====
/-
  The proof of `Cert.Claim`: the three programs run and leave their arguments alone, the named constant is what its rule says, and
  the kernel's two results are the reference's.
-/
module

public import proofs.«01_k».proof.Defs
public import proofs.«01_k».proof.Proof.Gen.Kernel
public import proofs.«01_k».proof.Proof.Gen.Kernel.Frame
public import proofs.«01_k».proof.Proof.Gen.KernelIdeal
public import proofs.«01_k».proof.Proof.Gen.KernelIdeal.Frame
public import proofs.«01_k».proof.Proof.Gen.ReferenceIdeal
public import proofs.«01_k».proof.Proof.Gen.ReferenceIdeal.Run
public import proofs.«01_k».proof.Proof.Gen.ReferenceIdeal.Read
public import proofs.«01_k».proof.Proof.Gen.Pre_inputs_finite
public import proofs.«01_k».proof.Proof.Equation
public import Idealize.ShloMosaic.Lib.Quiescent
public import Idealize.ShloMosaic.Adequacy
public import Idealize.ShloMosaic.Init

@[expose] public section

noncomputable section

namespace Cert.Proof

open Idealize.ShloMosaic Idealize.SL.Sem Cert.Kernel

/-- The reference runs, its arguments end unchanged, and its semaphores end at zero. -/
theorem reference_quiescent (m : (ℓ : Loc Cert.ReferenceIdeal.nD Cert.ReferenceIdeal.τ Cert.ReferenceIdeal.sig) → Buf (Elt Ideal) ℓ)
    (ρ : Dev Cert.ReferenceIdeal.nD → PrngReg) :
    θ_run (Cert.ReferenceIdeal.defs (F := Ideal)) (onTc (τ := Cert.ReferenceIdeal.τ) (Cert.ReferenceIdeal.main (F := Ideal))) ⟨m, fun _ => 0, ρ⟩
      (fun r => (∀ c : Dev Cert.ReferenceIdeal.nD,
        r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
        ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
        ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
        ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
        ∧ r.2.sem = fun _ => 0) :=
  (θ_run Cert.ReferenceIdeal.defs _ _).mono
    (fun r h => ⟨fun c => (h c).2.2, Idealize.ShloMosaic.sem_eq_zero_of_no_sems (by decide) r.2⟩)
    (Cert.ReferenceIdeal.Value.run (F := Ideal) m ρ)

/-- From memories that agree on the arguments, the kernel and the reference end with the same two results. -/
theorem results : Cert.algebraic_KernelIdeal_ReferenceIdeal_pre_inputs_finite (hKernelIdeal := Cert.KernelIdeal.Gen.facts)
    (hReferenceIdeal := Cert.ReferenceIdeal.Gen.facts) (hPre_inputs_finite := Cert.Pre_inputs_finite.Gen.facts) := by
  intro m g m' g' hpre harg
  refine ⟨_, _, Cert.KernelIdeal.Blk.run (F := Ideal) m g, (θ_run Cert.ReferenceIdeal.defs _ _).mono (fun r h c => ?_)
    (Cert.ReferenceIdeal.Value.run (F := Ideal) m' g')⟩
  have he := Cert.Dist.results_eq _ _ _ _ (hpre c)
  obtain ⟨a0, a1, a2, a3⟩ := harg c
  refine ⟨?_, ?_, (h c).2.2⟩
  · refine (h c).1.trans ((Cert.ReferenceIdeal.Read.val_main_v60_eq (F := Ideal) m' c).trans ?_)
    rw [a0, a1, a2, a3]
    exact he.1
  · refine (h c).2.1.trans ((Cert.ReferenceIdeal.Read.val_main_v58_eq (F := Ideal) m' c).trans ?_)
    rw [a0, a1, a2, a3]
    exact he.2

/-- Everything this certificate claims. -/
theorem claim : Cert.Claim := ⟨Cert.Kernel.Gen.facts, Cert.KernelIdeal.Gen.facts, Cert.ReferenceIdeal.Gen.facts, Cert.Pre_inputs_finite.Gen.facts,
  (fun m ρ _ => Cert.Kernel.Gen.frame m ρ), (fun m ρ _ => Cert.KernelIdeal.Gen.frame m ρ), (fun m ρ _ => Cert.KernelIdeal.Gen.frame m ρ),
  (fun m ρ _ => reference_quiescent m ρ), (fun m ρ _ => reference_quiescent m ρ),
  IdealRules.named_const.statement Cert.KernelIdeal.κ "inv_127" .f32 0x3C010204#32 ((1 / 127 : ℝ) : EReal) rfl,
  results⟩

end Cert.Proof

end
